-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_swa_finite [hPre_swa_finite : Cert.Pre_swa_finite.Facts] (m : (ℓ : Loc Cert.SwaIdeal.nD Cert.SwaIdeal.τ Cert.SwaIdeal.sig) → Buf (Elt Ideal) ℓ) : Prop :=
  ∀ c : Dev Cert.SwaIdeal.nD,
    (Cert.Pre_swa_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_swa_finite [hPre_swa_finite : Cert.Pre_swa_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_swa_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_post_finite [hPre_post_finite : Cert.Pre_post_finite.Facts] (m : (ℓ : Loc Cert.PostIdeal.nD Cert.PostIdeal.τ Cert.PostIdeal.sig) → Buf (Elt Ideal) ℓ) : Prop :=
  ∀ c : Dev Cert.PostIdeal.nD,
    (Cert.Pre_post_finite.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_post_finite [hPre_post_finite : Cert.Pre_post_finite.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_post_finite.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12))) = (fun _ => 1#1)

def Pre_Pack (m : (ℓ : Loc Cert.Pack.nD Cert.Pack.τ Cert.Pack.sig) → Buf (Elt Bits) ℓ) : Prop :=
  True

def Pre_PackRef (m : (ℓ : Loc Cert.PackRef.nD Cert.PackRef.τ Cert.PackRef.sig) → Buf (Elt Bits) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_swa_finite [hSwaIdeal : Cert.SwaIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_swa_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_swa_finite [hSwaRefIdeal : Cert.SwaRefIdeal.Facts] [hPre_swa_finite : Cert.Pre_swa_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_swa_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostIdeal_pre_post_finite [hPostIdeal : Cert.PostIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg), Pre_PostIdeal_post_finite m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_PostRefIdeal_pre_post_finite [hPostRefIdeal : Cert.PostRefIdeal.Facts] [hPre_post_finite : Cert.Pre_post_finite.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_post_finite m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0))
      ∧ r.2.sem = fun _ => 0)

def quiescent_PackRef [hPackRef : Cert.PackRef.Facts] : Prop :=
  ∀ (m : (ℓ : Loc Cert.PackRef.nD Cert.PackRef.τ Cert.PackRef.sig) → Buf (Elt Bits) ℓ) (g : Dev Cert.PackRef.nD → PrngReg), Pre_PackRef m →
    θ_run (Cert.PackRef.defs (F := Bits)) (onTc (τ := Cert.PackRef.τ) (Cert.PackRef.main (F := Bits))) ⟨m, fun _ => 0, g⟩ (fun r => (∀ c : Dev Cert.PackRef.nD,
      r.2.mem ((c.tc : Thread Cert.PackRef.nD Cert.PackRef.τ).loc Cert.PackRef.main_arg0) = m ((c.tc : Thread Cert.PackRef.nD Cert.PackRef.τ).loc Cert.PackRef.main_arg0))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_swa_finite [hSwaIdeal : Cert.SwaIdeal.Facts] [hSwaRefIdeal : Cert.SwaRefIdeal.Facts] [hPre_swa_finite : Cert.Pre_swa_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_swa_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v1)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v1) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v68) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v36_0)) (v1 : (c : Dev Cert.InProjIdeal.nD) → Buf (Elt Ideal) ((c.tc : Thread Cert.InProjIdeal.nD Cert.InProjIdeal.τ).loc Cert.InProjIdeal.main_v36_1)) (v2 : (c : Dev Cert.InProjIdeal.nD) → Buf (Elt Ideal) ((c.tc : Thread Cert.InProjIdeal.nD Cert.InProjIdeal.τ).loc Cert.InProjIdeal.main_v36_2)) (v3 : (c : Dev Cert.InProjIdeal.nD) → Buf (Elt Ideal) ((c.tc : Thread Cert.InProjIdeal.nD Cert.InProjIdeal.τ).loc Cert.InProjIdeal.main_v36_3)) (v4 : (c : Dev Cert.InProjIdeal.nD) → Buf (Elt Ideal) ((c.tc : Thread Cert.InProjIdeal.nD Cert.InProjIdeal.τ).loc Cert.InProjIdeal.main_v36_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v36_0) = v0 c
          ∧ r.2.mem ((c.tc : Thread Cert.InProjIdeal.nD Cert.InProjIdeal.τ).loc Cert.InProjIdeal.main_v36_1) = v1 c
          ∧ r.2.mem ((c.tc : Thread Cert.InProjIdeal.nD Cert.InProjIdeal.τ).loc Cert.InProjIdeal.main_v36_2) = v2 c
          ∧ r.2.mem ((c.tc : Thread Cert.InProjIdeal.nD Cert.InProjIdeal.τ).loc Cert.InProjIdeal.main_v36_3) = v3 c
          ∧ r.2.mem ((c.tc : Thread Cert.InProjIdeal.nD Cert.InProjIdeal.τ).loc Cert.InProjIdeal.main_v36_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v104) = v0 c
          ∧ r.2.mem ((c.tc : Thread Cert.InProjRefIdeal.nD Cert.InProjRefIdeal.τ).loc Cert.InProjRefIdeal.main_v106) = v1 c
          ∧ r.2.mem ((c.tc : Thread Cert.InProjRefIdeal.nD Cert.InProjRefIdeal.τ).loc Cert.InProjRefIdeal.main_v108) = v2 c
          ∧ r.2.mem ((c.tc : Thread Cert.InProjRefIdeal.nD Cert.InProjRefIdeal.τ).loc Cert.InProjRefIdeal.main_v109) = v3 c
          ∧ r.2.mem ((c.tc : Thread Cert.InProjRefIdeal.nD Cert.InProjRefIdeal.τ).loc Cert.InProjRefIdeal.main_v111) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v17) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Post_PostIdeal : Prop :=
  True

def algebraic_PostIdeal_PostRefIdeal_pre_post_finite [hPostIdeal : Cert.PostIdeal.Facts] [hPostRefIdeal : Cert.PostRefIdeal.Facts] [hPre_post_finite : Cert.Pre_post_finite.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_post_finite m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v15_0)) (v1 : (c : Dev Cert.PostIdeal.nD) → Buf (Elt Ideal) ((c.tc : Thread Cert.PostIdeal.nD Cert.PostIdeal.τ).loc Cert.PostIdeal.main_v15_1)) (v2 : (c : Dev Cert.PostIdeal.nD) → Buf (Elt Ideal) ((c.tc : Thread Cert.PostIdeal.nD Cert.PostIdeal.τ).loc Cert.PostIdeal.main_v15_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v15_0) = v0 c
          ∧ r.2.mem ((c.tc : Thread Cert.PostIdeal.nD Cert.PostIdeal.τ).loc Cert.PostIdeal.main_v15_1) = v1 c
          ∧ r.2.mem ((c.tc : Thread Cert.PostIdeal.nD Cert.PostIdeal.τ).loc Cert.PostIdeal.main_v15_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v82) = v0 c
          ∧ r.2.mem ((c.tc : Thread Cert.PostRefIdeal.nD Cert.PostRefIdeal.τ).loc Cert.PostRefIdeal.main_v77) = v1 c
          ∧ r.2.mem ((c.tc : Thread Cert.PostRefIdeal.nD Cert.PostRefIdeal.τ).loc Cert.PostRefIdeal.main_v81) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12))

def bitexact_Pack_PackRef [hPack : Cert.Pack.Facts] [hPackRef : Cert.PackRef.Facts] : Prop :=
  ∀ (m : (ℓ : Loc Cert.Pack.nD Cert.Pack.τ Cert.Pack.sig) → Buf (Elt Bits) ℓ) (g : Dev Cert.Pack.nD → PrngReg)
    (m' : (ℓ : Loc Cert.PackRef.nD Cert.PackRef.τ Cert.PackRef.sig) → Buf (Elt Bits) ℓ) (g' : Dev Cert.PackRef.nD → PrngReg), Pre_Pack m →
    (∀ c : Dev Cert.Pack.nD,
      m' ((c.tc : Thread Cert.PackRef.nD Cert.PackRef.τ).loc Cert.PackRef.main_arg0) = m ((c.tc : Thread Cert.Pack.nD Cert.Pack.τ).loc Cert.Pack.main_arg0)) →
    ∃ (v0 : (c : Dev Cert.Pack.nD) → Buf (Elt Bits) ((c.tc : Thread Cert.Pack.nD Cert.Pack.τ).loc Cert.Pack.main_v1)),
      θ_run (Cert.Pack.defs (F := Bits)) (onTc (τ := Cert.Pack.τ) (Cert.Pack.main (F := Bits))) ⟨m, fun _ => 0, g⟩ (fun r => ∀ c : Dev Cert.Pack.nD,
          r.2.mem ((c.tc : Thread Cert.Pack.nD Cert.Pack.τ).loc Cert.Pack.main_v1) = v0 c
          ∧ r.2.mem ((c.tc : Thread Cert.Pack.nD Cert.Pack.τ).loc Cert.Pack.main_arg0) = m ((c.tc : Thread Cert.Pack.nD Cert.Pack.τ).loc Cert.Pack.main_arg0))
      ∧ θ_run (Cert.PackRef.defs (F := Bits)) (onTc (τ := Cert.PackRef.τ) (Cert.PackRef.main (F := Bits))) ⟨m', fun _ => 0, g'⟩ (fun r => ∀ c : Dev Cert.PackRef.nD,
          r.2.mem ((c.tc : Thread Cert.PackRef.nD Cert.PackRef.τ).loc Cert.PackRef.main_v12) = v0 c
          ∧ r.2.mem ((c.tc : Thread Cert.PackRef.nD Cert.PackRef.τ).loc Cert.PackRef.main_arg0) = m' ((c.tc : Thread Cert.PackRef.nD Cert.PackRef.τ).loc Cert.PackRef.main_arg0))

def Claim : Prop :=
  ∃ (hSwa : Cert.Swa.Facts) (hSwaIdeal : Cert.SwaIdeal.Facts) (hSwaRefIdeal : Cert.SwaRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hPost : Cert.Post.Facts) (hPostIdeal : Cert.PostIdeal.Facts) (hPostRefIdeal : Cert.PostRefIdeal.Facts) (hPack : Cert.Pack.Facts) (hPackRef : Cert.PackRef.Facts) (hPre_swa_finite : Cert.Pre_swa_finite.Facts) (hPre_post_finite : Cert.Pre_post_finite.Facts),
    quiescent_Swa (hSwa := hSwa)
    ∧ quiescent_SwaIdeal (hSwaIdeal := hSwaIdeal)
    ∧ quiescent_SwaIdeal_pre_swa_finite (hSwaIdeal := hSwaIdeal) (hPre_swa_finite := hPre_swa_finite)
    ∧ quiescent_SwaRefIdeal (hSwaRefIdeal := hSwaRefIdeal)
    ∧ quiescent_SwaRefIdeal_pre_swa_finite (hSwaRefIdeal := hSwaRefIdeal) (hPre_swa_finite := hPre_swa_finite)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Post (hPost := hPost)
    ∧ quiescent_PostIdeal (hPostIdeal := hPostIdeal)
    ∧ quiescent_PostIdeal_pre_post_finite (hPostIdeal := hPostIdeal) (hPre_post_finite := hPre_post_finite)
    ∧ quiescent_PostRefIdeal (hPostRefIdeal := hPostRefIdeal)
    ∧ quiescent_PostRefIdeal_pre_post_finite (hPostRefIdeal := hPostRefIdeal) (hPre_post_finite := hPre_post_finite)
    ∧ quiescent_Pack (hPack := hPack)
    ∧ quiescent_PackRef (hPackRef := hPackRef)
    ∧ preserves_Swa_SwaIdeal
    ∧ algebraic_SwaIdeal_SwaRefIdeal_pre_swa_finite (hSwaIdeal := hSwaIdeal) (hSwaRefIdeal := hSwaRefIdeal) (hPre_swa_finite := hPre_swa_finite)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_Post_PostIdeal
    ∧ algebraic_PostIdeal_PostRefIdeal_pre_post_finite (hPostIdeal := hPostIdeal) (hPostRefIdeal := hPostRefIdeal) (hPre_post_finite := hPre_post_finite)
    ∧ bitexact_Pack_PackRef (hPack := hPack) (hPackRef := hPackRef)
-- ==== Pre_post_finite.lean ====
abbrev S32x2048x1024 : Shape := ⟨3, ![32, 2048, 1024]⟩
abbrev S65536x1024 : Shape := ⟨2, ![65536, 1024]⟩
abbrev S65536x2048 : Shape := ⟨2, ![65536, 2048]⟩
abbrev S8192x1024 : Shape := ⟨2, ![8192, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1024x2048 : Shape := ⟨3, ![1, 1024, 2048]⟩
abbrev S1x128x128 : Shape := ⟨3, ![1, 128, 128]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  bcast_S_S65536x2048 : S_.BroadcastsInDim S65536x2048 (![] : Fin 0 → Fin S65536x2048.rank)
  reducesTo_S65536x2048_S_d0_1 : S65536x2048.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x512 : S_.BroadcastsInDim S1x1024x512 (![] : Fin 0 → Fin S1x1024x512.rank)
  reducesTo_S1x1024x512_S_d0_1_2 : S1x1024x512.ReducesTo [0, 1, 2] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x128x128 : S_.BroadcastsInDim S1x128x128 (![] : Fin 0 → Fin S1x128x128.rank)
  reducesTo_S1x128x128_S_d0_1_2 : S1x128x128.ReducesTo [0, 1, 2] S_

variable [Facts]

def fn_part3 {F : FTy → Type} [FloatOps F] (main_arg12 : FVec F S1x128x128 .f32) (main_v3 : IVec S_ 1) (main_v8 : IVec S_ 1) (main_v13 : IVec S_ 1) (main_v18 : IVec S_ 1) (main_v23 : IVec S_ 1) (main_v27 : IVec S_ 1) (main_v31 : IVec S_ 1) (main_v35 : IVec S_ 1) (main_v39 : IVec S_ 1) (main_v43 : IVec S_ 1) (main_v47 : IVec S_ 1) (main_v48 : FVec F S1x128x128 .f32) (main_cst_20 : FVec F S_ .f32) : IVec S_ 1 :=
  let main_v49 : FVec F S1x128x128 .f32 := broadcastInDim S1x128x128 ![] bcast_S_S1x128x128 main_cst_20
  let main_v50 : IVec S1x128x128 1 := cmpf .olt main_v48 main_v49
  let main_c_21 : IVec S_ 1 := constantI S_ 1 1#1
  let main_v51 : IVec S_ 1 := (fun x v => Host.reduce IntOp.andi x v reducesTo_S1x128x128_S_d0_1_2 h_S_) main_v50 main_c_21
  let main_v52 : FVec F S1x128x128 .f32 := Host.absf main_arg12
  let main_cst_22 : FVec F S_ .f32 := constant S_ .f32 0x7F800000#32
  let main_v53 : FVec F S1x128x128 .f32 := broadcastInDim S1x128x128 ![] bcast_S_S1x128x128 main_cst_22
  let main_v54 : IVec S1x128x128 1 := cmpf .olt main_v52 main_v53
  let main_c_23 : IVec S_ 1 := constantI S_ 1 1#1
  let main_v55 : IVec S_ 1 := (fun x v => Host.reduce IntOp.andi x v reducesTo_S1x128x128_S_d0_1_2 h_S_) main_v54 main_c_23
  let main_v56 : IVec S_ 1 := andi main_v3 main_v8
  let main_v57 : IVec S_ 1 := andi main_v56 main_v13
  let main_v58 : IVec S_ 1 := andi main_v57 main_v18
  let main_v59 : IVec S_ 1 := andi main_v58 main_v23
  let main_v60 : IVec S_ 1 := andi main_v59 main_v27
  let main_v61 : IVec S_ 1 := andi main_v60 main_v31
  let main_v62 : IVec S_ 1 := andi main_v61 main_v35
  let main_v63 : IVec S_ 1 := andi main_v62 main_v39
  let main_v64 : IVec S_ 1 := andi main_v63 main_v43
  let main_v65 : IVec S_ 1 := andi main_v64 main_v47
  let main_v66 : IVec S_ 1 := andi main_v65 main_v51
  let main_v67 : IVec S_ 1 := andi main_v66 main_v55
  main_v67

def fn_part2 {F : FTy → Type} [FloatOps F] (main_arg8 : FVec F S1x512x1024 .f32) (main_arg9 : FVec F S1x1024 .f32) (main_arg10 : FVec F S1x1024x2048 .f32) (main_arg11 : FVec F S1x128x128 .f32) (main_arg12 : FVec F S1x128x128 .f32) (main_v3 : IVec S_ 1) (main_v8 : IVec S_ 1) (main_v13 : IVec S_ 1) (main_v18 : IVec S_ 1) (main_v23 : IVec S_ 1) (main_v27 : IVec S_ 1) (main_v31 : IVec S_ 1) (main_v32 : FVec F S1x1024x512 .f32) (main_cst_12 : FVec F S_ .f32) : IVec S_ 1 :=
  let main_v33 : FVec F S1x1024x512 .f32 := broadcastInDim S1x1024x512 ![] bcast_S_S1x1024x512 main_cst_12
  let main_v34 : IVec S1x1024x512 1 := cmpf .olt main_v32 main_v33
  let main_c_13 : IVec S_ 1 := constantI S_ 1 1#1
  let main_v35 : IVec S_ 1 := (fun x v => Host.reduce IntOp.andi x v reducesTo_S1x1024x512_S_d0_1_2 h_S_) main_v34 main_c_13
  let main_v36 : FVec F S1x512x1024 .f32 := Host.absf main_arg8
  let main_cst_14 : FVec F S_ .f32 := constant S_ .f32 0x7F800000#32
  let main_v37 : FVec F S1x512x1024 .f32 := broadcastInDim S1x512x1024 ![] bcast_S_S1x512x1024 main_cst_14
  let main_v38 : IVec S1x512x1024 1 := cmpf .olt main_v36 main_v37
  let main_c_15 : IVec S_ 1 := constantI S_ 1 1#1
  let main_v39 : IVec S_ 1 := (fun x v => Host.reduce IntOp.andi x v reducesTo_S1x512x1024_S_d0_1_2 h_S_) main_v38 main_c_15
  let main_v40 : FVec F S1x1024 .f32 := Host.absf main_arg9
  let main_cst_16 : FVec F S_ .f32 := constant S_ .f32 0x7F800000#32
  let main_v41 : FVec F S1x1024 .f32 := broadcastInDim S1x1024 ![] bcast_S_S1x1024 main_cst_16
  let main_v42 : IVec S1x1024 1 := cmpf .olt main_v40 main_v41
  let main_c_17 : IVec S_ 1 := constantI S_ 1 1#1
  let main_v43 : IVec S_ 1 := (fun x v => Host.reduce IntOp.andi x v reducesTo_S1x1024_S_d0_1 h_S_) main_v42 main_c_17
  let main_v44 : FVec F S1x1024x2048 .f32 := Host.absf main_arg10
  let main_cst_18 : FVec F S_ .f32 := constant S_ .f32 0x7F800000#32
  let main_v45 : FVec F S1x1024x2048 .f32 := broadcastInDim S1x1024x2048 ![] bcast_S_S1x1024x2048 main_cst_18
  let main_v46 : IVec S1x1024x2048 1 := cmpf .olt main_v44 main_v45
  let main_c_19 : IVec S_ 1 := constantI S_ 1 1#1
  let main_v47 : IVec S_ 1 := (fun x v => Host.reduce IntOp.andi x v reducesTo_S1x1024x2048_S_d0_1_2 h_S_) main_v46 main_c_19
  let main_v48 : FVec F S1x128x128 .f32 := Host.absf main_arg11
  let main_cst_20 : FVec F S_ .f32 := constant S_ .f32 0x7F800000#32
  fn_part3 (F := F) main_arg12 main_v3 main_v8 main_v13 main_v18 main_v23 main_v27 main_v31 main_v35 main_v39 main_v43 main_v47 main_v48 main_cst_20

def fn_part1 {F : FTy → Type} [FloatOps F] (main_arg4 : FVec F S8192x1024 .bf16) (main_arg5 : FVec F S1x1024x1024 .f32) (main_arg6 : FVec F S1x1024 .f32) (main_arg7 : FVec F S1x1024x512 .f32) (main_arg8 : FVec F S1x512x1024 .f32) (main_arg9 : FVec F S1x1024 .f32) (main_arg10 : FVec F S1x1024x2048 .f32) (main_arg11 : FVec F S1x128x128 .f32) (main_arg12 : FVec F S1x128x128 .f32) (main_v3 : IVec S_ 1) (main_v8 : IVec S_ 1) (main_v13 : IVec S_ 1) (main_v15 : FVec F S65536x2048 .f32) (main_v16 : FVec F S65536x2048 .f32) : IVec S_ 1 :=
  let main_v17 : IVec S65536x2048 1 := cmpf .olt main_v15 main_v16
  let main_c_5 : IVec S_ 1 := constantI S_ 1 1#1
  let main_v18 : IVec S_ 1 := (fun x v => Host.reduce IntOp.andi x v reducesTo_S65536x2048_S_d0_1 h_S_) main_v17 main_c_5
  let main_v19 : FVec F S8192x1024 .f32 := (extf .f32 · bitsLt_bf16_f32) main_arg4
  let main_v20 : FVec F S8192x1024 .f32 := Host.absf main_v19
  let main_cst_6 : FVec F S_ .f32 := constant S_ .f32 0x7F800000#32
  let main_v21 : FVec F S8192x1024 .f32 := broadcastInDim S8192x1024 ![] bcast_S_S8192x1024 main_cst_6
  let main_v22 : IVec S8192x1024 1 := cmpf .olt main_v20 main_v21
  let main_c_7 : IVec S_ 1 := constantI S_ 1 1#1
  let main_v23 : IVec S_ 1 := (fun x v => Host.reduce IntOp.andi x v reducesTo_S8192x1024_S_d0_1 h_S_) main_v22 main_c_7
  let main_v24 : FVec F S1x1024x1024 .f32 := Host.absf main_arg5
  let main_cst_8 : FVec F S_ .f32 := constant S_ .f32 0x7F800000#32
  let main_v25 : FVec F S1x1024x1024 .f32 := broadcastInDim S1x1024x1024 ![] bcast_S_S1x1024x1024 main_cst_8
  let main_v26 : IVec S1x1024x1024 1 := cmpf .olt main_v24 main_v25
  let main_c_9 : IVec S_ 1 := constantI S_ 1 1#1
  let main_v27 : IVec S_ 1 := (fun x v => Host.reduce IntOp.andi x v reducesTo_S1x1024x1024_S_d0_1_2 h_S_) main_v26 main_c_9
  let main_v28 : FVec F S1x1024 .f32 := Host.absf main_arg6
  let main_cst_10 : FVec F S_ .f32 := constant S_ .f32 0x7F800000#32
  let main_v29 : FVec F S1x1024 .f32 := broadcastInDim S1x1024 ![] bcast_S_S1x1024 main_cst_10
  let main_v30 : IVec S1x1024 1 := cmpf .olt main_v28 main_v29
  let main_c_11 : IVec S_ 1 := constantI S_ 1 1#1
  let main_v31 : IVec S_ 1 := (fun x v => Host.reduce IntOp.andi x v reducesTo_S1x1024_S_d0_1 h_S_) main_v30 main_c_11
  let main_v32 : FVec F S1x1024x512 .f32 := Host.absf main_arg7
  let main_cst_12 : FVec F S_ .f32 := constant S_ .f32 0x7F800000#32
  fn_part2 (F := F) main_arg8 main_arg9 main_arg10 main_arg11 main_arg12 main_v3 main_v8 main_v13 main_v18 main_v23 main_v27 main_v31 main_v32 main_cst_12

def fn {F : FTy → Type} [FloatOps F] (main_arg0 : FVec F S32x2048x1024 .f32) (main_arg1 : FVec F S65536x1024 .bf16) (main_arg2 : FVec F S65536x1024 .bf16) (main_arg3 : FVec F S65536x2048 .bf16) (main_arg4 : FVec F S8192x1024 .bf16) (main_arg5 : FVec F S1x1024x1024 .f32) (main_arg6 : FVec F S1x1024 .f32) (main_arg7 : FVec F S1x1024x512 .f32) (main_arg8 : FVec F S1x512x1024 .f32) (main_arg9 : FVec F S1x1024 .f32) (main_arg10 : FVec F S1x1024x2048 .f32) (main_arg11 : FVec F S1x128x128 .f32) (main_arg12 : FVec F S1x128x128 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S65536x1024 .f32 := (extf .f32 · bitsLt_bf16_f32) main_arg1
  let main_v5 : FVec F S65536x1024 .f32 := Host.absf main_v4
  let main_cst_0 : FVec F S_ .f32 := constant S_ .f32 0x7F800000#32
  let main_v6 : FVec F S65536x1024 .f32 := broadcastInDim S65536x1024 ![] bcast_S_S65536x1024 main_cst_0
  let main_v7 : IVec S65536x1024 1 := cmpf .olt main_v5 main_v6
  let main_c_1 : IVec S_ 1 := constantI S_ 1 1#1
  let main_v8 : IVec S_ 1 := (fun x v => Host.reduce IntOp.andi x v reducesTo_S65536x1024_S_d0_1 h_S_) main_v7 main_c_1
  let main_v9 : FVec F S65536x1024 .f32 := (extf .f32 · bitsLt_bf16_f32) main_arg2
  let main_v10 : FVec F S65536x1024 .f32 := Host.absf main_v9
  let main_cst_2 : FVec F S_ .f32 := constant S_ .f32 0x7F800000#32
  let main_v11 : FVec F S65536x1024 .f32 := broadcastInDim S65536x1024 ![] bcast_S_S65536x1024 main_cst_2
  let main_v12 : IVec S65536x1024 1 := cmpf .olt main_v10 main_v11
  let main_c_3 : IVec S_ 1 := constantI S_ 1 1#1
  let main_v13 : IVec S_ 1 := (fun x v => Host.reduce IntOp.andi x v reducesTo_S65536x1024_S_d0_1 h_S_) main_v12 main_c_3
  let main_v14 : FVec F S65536x2048 .f32 := (extf .f32 · bitsLt_bf16_f32) main_arg3
  let main_v15 : FVec F S65536x2048 .f32 := Host.absf main_v14
  let main_cst_4 : FVec F S_ .f32 := constant S_ .f32 0x7F800000#32
  let main_v16 : FVec F S65536x2048 .f32 := broadcastInDim S65536x2048 ![] bcast_S_S65536x2048 main_cst_4
  fn_part1 (F := F) main_arg4 main_arg5 main_arg6 main_arg7 main_arg8 main_arg9 main_arg10 main_arg11 main_arg12 main_v3 main_v8 main_v13 main_v15 main_v16
-- ==== Pre_swa_finite.lean ====
abbrev S65536x1024 : Shape := ⟨2, ![65536, 1024]⟩
abbrev S65536x256 : Shape := ⟨2, ![65536, 256]⟩
abbrev S1x16 : Shape := ⟨2, ![1, 16]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S65536x1024 .bf16) (main_arg1 : FVec F S65536x256 .bf16) (main_arg2 : FVec F S65536x256 .bf16) (main_arg3 : FVec F S1x16 .f32) : IVec S_ 1 :=
  let main_v0 : FVec F S65536x1024 .f32 := (extf .f32 · bitsLt_bf16_f32) main_arg0
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_c : IVec S_ 1 := constantI S_ 1 1#1
  let main_v4 : IVec S_ 1 := (fun x v => Host.reduce IntOp.andi x v reducesTo_S65536x1024_S_d0_1 h_S_) main_v3 main_c
  let main_v5 : FVec F S65536x256 .f32 := (extf .f32 · bitsLt_bf16_f32) main_arg1
  let main_v6 : FVec F S65536x256 .f32 := Host.absf main_v5
  let main_cst_0 : FVec F S_ .f32 := constant S_ .f32 0x7F800000#32
  let main_v7 : FVec F S65536x256 .f32 := broadcastInDim S65536x256 ![] bcast_S_S65536x256 main_cst_0
  let main_v8 : IVec S65536x256 1 := cmpf .olt main_v6 main_v7
  let main_c_1 : IVec S_ 1 := constantI S_ 1 1#1
  let main_v9 : IVec S_ 1 := (fun x v => Host.reduce IntOp.andi x v reducesTo_S65536x256_S_d0_1 h_S_) main_v8 main_c_1
  let main_v10 : IVec S_ 1 := andi main_v4 main_v9
  let main_v11 : FVec F S1x16 .f32 := Host.absf main_arg3
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_c_3 : IVec S_ 1 := constantI S_ 1 1#1
  let main_v14 : IVec S_ 1 := (fun x v => Host.reduce IntOp.andi x v reducesTo_S1x16_S_d0_1 h_S_) main_v13 main_c_3
  let main_v15 : IVec S_ 1 := andi main_v10 main_v14
  main_v15
-- ==== Swa.lean ====
abbrev S65536x1024 : Shape := ⟨2, ![65536, 1024]⟩
abbrev S65536x256 : Shape := ⟨2, ![65536, 256]⟩
abbrev S1x16 : Shape := ⟨2, ![1, 16]⟩
abbrev S16 : Shape := ⟨1, ![16]⟩
abbrev S128x1024 : Shape := ⟨2, ![128, 1024]⟩
abbrev S128x256 : Shape := ⟨2, ![128, 256]⟩
abbrev S512x256 : Shape := ⟨2, ![512, 256]⟩
abbrev S512x1 : Shape := ⟨2, ![512, 1]⟩
abbrev S128x64 : Shape := ⟨2, ![128, 64]⟩
abbrev S256x64 : Shape := ⟨2, ![256, 64]⟩
abbrev S512x64 : Shape := ⟨2, ![512, 64]⟩
abbrev S1 : Shape := ⟨1, ![1]⟩
abbrev S512 : Shape := ⟨1, ![512]⟩

abbrev nBuf : Space → Nat
  | .hbm => 6
  | .vmem => 12
  | .smem => 1
  | _ => 0

abbrev bufTy : (tb : Table) → Fin (tcTables nBuf tb) → BufTy
  | .hbm, ⟨0, _⟩ => ⟨S65536x1024, .bf16⟩
  | .hbm, ⟨1, _⟩ => ⟨S65536x256, .bf16⟩
  | .hbm, ⟨2, _⟩ => ⟨S65536x256, .bf16⟩
  | .hbm, ⟨3, _⟩ => ⟨S1x16, .f32⟩
  | .hbm, ⟨4, _⟩ => ⟨S16, .f32⟩
  | .hbm, ⟨5, _⟩ => ⟨S65536x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .smem, ⟨0, _⟩ => ⟨S16, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S65536x1024 : Shape := ⟨2, ![65536, 1024]⟩
abbrev S65536x256 : Shape := ⟨2, ![65536, 256]⟩
abbrev S1x16 : Shape := ⟨2, ![1, 16]⟩
abbrev S32x16x128x4x4x64 : Shape := ⟨6, ![32, 16, 128, 4, 4, 64]⟩
abbrev S32x16x128x4x64 : Shape := ⟨5, ![32, 16, 128, 4, 64]⟩
abbrev S_ : Shape := ⟨0, ![]⟩
abbrev S32x17x128x4x64 : Shape := ⟨5, ![32, 17, 128, 4, 64]⟩
abbrev S32x16x256x4x64 : Shape := ⟨5, ![32, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16 : Shape := ⟨1, ![16]⟩
abbrev S16x1x1 : Shape := ⟨3, ![16, 1, 1]⟩
abbrev S128x256 : Shape := ⟨2, ![128, 256]⟩
abbrev S1x128x256 : Shape := ⟨3, ![1, 128, 256]⟩
abbrev S1x1x256 : Shape := ⟨3, ![1, 1, 256]⟩
abbrev S16x1x256 : Shape := ⟨3, ![16, 1, 256]⟩
abbrev S16x128x256 : Shape := ⟨3, ![16, 128, 256]⟩
abbrev S4x4 : Shape := ⟨2, ![4, 4]⟩
abbrev S1x1x4x4x1x1 : Shape := ⟨6, ![1, 1, 4, 4, 1, 1]⟩
abbrev S32x16x4x256x128x4 : Shape := ⟨6, ![32, 16, 4, 256, 128, 4]⟩
abbrev S32x16x4x4x128x256 : Shape := ⟨6, ![32, 16, 4, 4, 128, 256]⟩
abbrev S1x16x1x1x128x256 : Shape := ⟨6, ![1, 16, 1, 1, 128, 256]⟩
abbrev S32x16x4x4x128 : Shape := ⟨5, ![32, 16, 4, 4, 128]⟩
abbrev S32x16x4x4x128x1 : Shape := ⟨6, ![32, 16, 4, 4, 128, 1]⟩
abbrev S32x16x4x64x4x128 : Shape := ⟨6, ![32, 16, 4, 64, 4, 128]⟩

abbrev nBuf : Space → Nat
  | .hbm => 88
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x256, .bf16⟩
  | .hbm, ⟨2, _⟩ => ⟨S65536x256, .bf16⟩
  | .hbm, ⟨3, _⟩ => ⟨S1x16, .f32⟩
  | .hbm, ⟨4, _⟩ => ⟨S65536x1024, .f32⟩
  | .hbm, ⟨5, _⟩ => ⟨S32x16x128x4x4x64, .f32⟩
  | .hbm, ⟨6, _⟩ => ⟨S65536x256, .f32⟩
  | .hbm, ⟨7, _⟩ => ⟨S32x16x128x4x64, .f32⟩
  | .hbm, ⟨8, _⟩ => ⟨S_, .i32⟩
  | .hbm, ⟨9, _⟩ => ⟨S_, .f32⟩
  | .hbm, ⟨10, _⟩ => ⟨S32x17x128x4x64, .f32⟩
  | .hbm, ⟨11, _⟩ => ⟨S32x16x128x4x64, .f32⟩
  | .hbm, ⟨12, _⟩ => ⟨S32x16x256x4x64, .f32⟩
  | .hbm, ⟨13, _⟩ => ⟨S65536x256, .f32⟩
  | .hbm, ⟨14, _⟩ => ⟨S32x16x128x4x64, .f32⟩
  | .hbm, ⟨15, _⟩ => ⟨S_, .i32⟩
  | .hbm, ⟨16, _⟩ => ⟨S_, .f32⟩
  | .hbm, ⟨17, _⟩ => ⟨S32x17x128x4x64, .f32⟩
  | .hbm, ⟨18, _⟩ => ⟨S32x16x128x4x64, .f32⟩
  | .hbm, ⟨19, _⟩ => ⟨S32x16x256x4x64, .f32⟩
  | .hbm, ⟨20, _⟩ => ⟨S128, .i32⟩
  | .hbm, ⟨21, _⟩ => ⟨S128x1, .i32⟩
  | .hbm, ⟨22, _⟩ => ⟨S256, .i32⟩
  | .hbm, ⟨23, _⟩ => ⟨S1x256, .i32⟩
  | .hbm, ⟨24, _⟩ => ⟨S16, .i32⟩
  | .hbm, ⟨25, _⟩ => ⟨S16x1x1, .i32⟩
  | .hbm, ⟨26, _⟩ => ⟨S128x256, .i32⟩
  | .hbm, ⟨27, _⟩ => ⟨S128x256, .i32⟩
  | .hbm, ⟨28, _⟩ => ⟨S128x256, .i1⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x256, .i32⟩
  | .hbm, ⟨33, _⟩ => ⟨S128x256, .i32⟩
  | .hbm, ⟨34, _⟩ => ⟨S128x256, .i1⟩
  | .hbm, ⟨35, _⟩ => ⟨S128x256, .i1⟩
  | .hbm, ⟨36, _⟩ => ⟨S1x128x256, .i1⟩
  | .hbm, ⟨37, _⟩ => ⟨S_, .i32⟩
  | .hbm, ⟨38, _⟩ => ⟨S16x1x1, .i32⟩
  | .hbm, ⟨39, _⟩ => ⟨S16x1x1, .i32⟩
  | .hbm, ⟨40, _⟩ => ⟨S_, .i32⟩
  | .hbm, ⟨41, _⟩ => ⟨S16x1x1, .i32⟩
  | .hbm, ⟨42, _⟩ => ⟨S16x1x1, .i32⟩
  | .hbm, ⟨43, _⟩ => ⟨S1x1x256, .i32⟩
  | .hbm, ⟨44, _⟩ => ⟨S16x1x256, .i32⟩
  | .hbm, ⟨45, _⟩ => ⟨S16x1x256, .i32⟩
  | .hbm, ⟨46, _⟩ => ⟨S16x1x256, .i32⟩
  | .hbm, ⟨47, _⟩ => ⟨S_, .i32⟩
  | .hbm, ⟨48, _⟩ => ⟨S16x1x256, .i32⟩
  | .hbm, ⟨49, _⟩ => ⟨S16x1x256, .i1⟩
  | .hbm, ⟨50, _⟩ => ⟨S16x128x256, .i1⟩
  | .hbm, ⟨51, _⟩ => ⟨S16x128x256, .i1⟩
  | .hbm, ⟨52, _⟩ => ⟨S16x128x256, .i1⟩
  | .hbm, ⟨53, _⟩ => ⟨S16, .f32⟩
  | .hbm, ⟨54, _⟩ => ⟨S4x4, .f32⟩
  | .hbm, ⟨55, _⟩ => ⟨S1x1x4x4x1x1, .f32⟩
  | .hbm, ⟨56, _⟩ => ⟨S32x16x4x256x128x4, .f32⟩
  | .hbm, ⟨57, _⟩ => ⟨S32x16x4x4x128x256, .f32⟩
  | .hbm, ⟨58, _⟩ => ⟨S_, .f32⟩
  | .hbm, ⟨59, _⟩ => ⟨S32x16x4x4x128x256, .f32⟩
  | .hbm, ⟨60, _⟩ => ⟨S32x16x4x4x128x256, .f32⟩
  | .hbm, ⟨61, _⟩ => ⟨S1x16x1x1x128x256, .i1⟩
  | .hbm, ⟨62, _⟩ => ⟨S_, .f32⟩
  | .hbm, ⟨63, _⟩ => ⟨S_, .f32⟩
  | .hbm, ⟨64, _⟩ => ⟨S32x16x4x4x128x256, .i1⟩
  | .hbm, ⟨65, _⟩ => ⟨S32x16x4x4x128x256, .f32⟩
  | .hbm, ⟨66, _⟩ => ⟨S32x16x4x4x128x256, .f32⟩
  | .hbm, ⟨67, _⟩ => ⟨S_, .f32⟩
  | .hbm, ⟨68, _⟩ => ⟨S32x16x4x4x128, .f32⟩
  | .hbm, ⟨69, _⟩ => ⟨S32x16x4x4x128x1, .f32⟩
  | .hbm, ⟨70, _⟩ => ⟨S32x16x4x4x128x1, .f32⟩
  | .hbm, ⟨71, _⟩ => ⟨S32x16x4x4x128x1, .f32⟩
  | .hbm, ⟨72, _⟩ => ⟨S32x16x4x4x128x256, .f32⟩
  | .hbm, ⟨73, _⟩ => ⟨S32x16x4x4x128x256, .f32⟩
  | .hbm, ⟨74, _⟩ => ⟨S32x16x4x4x128x256, .f32⟩
  | .hbm, ⟨75, _⟩ => ⟨S_, .f32⟩
  | .hbm, ⟨76, _⟩ => ⟨S32x16x4x4x128, .f32⟩
  | .hbm, ⟨77, _⟩ => ⟨S32x16x4x4x128x1, .f32⟩
  | .hbm, ⟨78, _⟩ => ⟨S32x16x4x4x128x1, .f32⟩
  | .hbm, ⟨79, _⟩ => ⟨S32x16x4x4x128x1, .f32⟩
  | .hbm, ⟨80, _⟩ => ⟨S32x16x4x4x128x1, .f32⟩
  | .hbm, ⟨81, _⟩ => ⟨S32x16x4x4x128x1, .f32⟩
  | .hbm, ⟨82, _⟩ => ⟨S32x16x4x4x128x256, .f32⟩
  | .hbm, ⟨83, _⟩ => ⟨S32x16x4x4x128x256, .f32⟩
  | .hbm, ⟨84, _⟩ => ⟨S32x16x4x64x4x128, .f32⟩
  | .hbm, ⟨85, _⟩ => ⟨S32x16x128x4x4x64, .f32⟩
  | .hbm, ⟨86, _⟩ => ⟨S65536x1024, .f32⟩
  | .hbm, ⟨87, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_c_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]
-- ==== InProj.lean ====
abbrev S32x2048x1024 : Shape := ⟨3, ![32, 2048, 1024]⟩
abbrev S32x2048 : Shape := ⟨2, ![32, 2048]⟩
abbrev S1x1024 : Shape := ⟨2, ![1, 1024]⟩
abbrev S1x1024x6912 : Shape := ⟨3, ![1, 1024, 6912]⟩
abbrev S8 : Shape := ⟨1, ![8]⟩
abbrev S_ : Shape := ⟨0, ![]⟩
abbrev S65536 : Shape := ⟨1, ![65536]⟩
abbrev S65536x1 : Shape := ⟨2, ![65536, 1]⟩
abbrev S1x8 : Shape := ⟨2, ![1, 8]⟩
abbrev S65536x8 : Shape := ⟨2, ![65536, 8]⟩
abbrev S65536x48 : Shape := ⟨2, ![65536, 48]⟩
abbrev S65536x64 : Shape := ⟨2, ![65536, 64]⟩
abbrev S1x65536x1x64 : Shape := ⟨4, ![1, 65536, 1, 64]⟩
abbrev S1x65536x2x64 : Shape := ⟨4, ![1, 65536, 2, 64]⟩
abbrev S65536x128 : Shape := ⟨2, ![65536, 128]⟩
abbrev S65536x1024 : Shape := ⟨2, ![65536, 1024]⟩
abbrev S1024 : Shape := ⟨1, ![1024]⟩
abbrev S1024x6912 : Shape := ⟨2, ![1024, 6912]⟩
abbrev S65536x256 : Shape := ⟨2, ![65536, 256]⟩
abbrev S65536x3328 : Shape := ⟨2, ![65536, 3328]⟩
abbrev S65536x2048 : Shape := ⟨2, ![65536, 2048]⟩
abbrev S256x1024 : Shape := ⟨2, ![256, 1024]⟩
abbrev S256x128 : Shape := ⟨2, ![256, 128]⟩
abbrev S256x256 : Shape := ⟨2, ![256, 256]⟩
abbrev S256x3328 : Shape := ⟨2, ![256, 3328]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S1024x3328 : Shape := ⟨2, ![1024, 3328]⟩
abbrev S1024x2048 : Shape := ⟨2, ![1024, 2048]⟩

abbrev nBuf : Space → Nat
  | .hbm => 52
  | .vmem => 18
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1x1024, .f32⟩
  | .hbm, ⟨3, _⟩ => ⟨S1x1024x6912, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S65536, .i32⟩
  | .hbm, ⟨21, _⟩ => ⟨S65536, .f32⟩
  | .hbm, ⟨22, _⟩ => ⟨S65536x1, .f32⟩
  | .hbm, ⟨23, _⟩ => ⟨S1x8, .f32⟩
  | .hbm, ⟨24, _⟩ => ⟨S65536x8, .f32⟩
  | .hbm, ⟨25, _⟩ => ⟨S65536x8, .f32⟩
  | .hbm, ⟨26, _⟩ => ⟨S65536x8, .f32⟩
  | .hbm, ⟨27, _⟩ => ⟨S65536x8, .f32⟩
  | .hbm, ⟨28, _⟩ => ⟨S65536x8, .f32⟩
  | .hbm, ⟨29, _⟩ => ⟨S_, .f32⟩
  | .hbm, ⟨30, _⟩ => ⟨S65536x48, .f32⟩
  | .hbm, ⟨31, _⟩ => ⟨S_, .f32⟩
  | .hbm, ⟨32, _⟩ => ⟨S65536x48, .f32⟩
  | .hbm, ⟨33, _⟩ => ⟨S65536x64, .f32⟩
  | .hbm, ⟨34, _⟩ => ⟨S65536x8, .f32⟩
  | .hbm, ⟨35, _⟩ => ⟨S65536x64, .f32⟩
  | .hbm, ⟨36, _⟩ => ⟨S1x65536x1x64, .f32⟩
  | .hbm, ⟨37, _⟩ => ⟨S1x65536x2x64, .f32⟩
  | .hbm, ⟨38, _⟩ => ⟨S65536x128, .f32⟩
  | .hbm, ⟨39, _⟩ => ⟨S1x65536x1x64, .f32⟩
  | .hbm, ⟨40, _⟩ => ⟨S1x65536x2x64, .f32⟩
  | .hbm, ⟨41, _⟩ => ⟨S65536x128, .f32⟩
  | .hbm, ⟨42, _⟩ => ⟨S65536x1024, .f32⟩
  | .hbm, ⟨43, _⟩ => ⟨S1024, .f32⟩
  | .hbm, ⟨44, _⟩ => ⟨S1024x6912, .f32⟩
  | .hbm, ⟨45, _⟩ => ⟨S1024x6912, .bf16⟩
  | .hbm, ⟨46, _⟩ => ⟨S1x1024, .f32⟩
  | .hbm, ⟨47, _⟩ => ⟨S65536x1024, .bf16⟩
  | .hbm, ⟨48, _⟩ => ⟨S65536x256, .bf16⟩
  | .hbm, ⟨49, _⟩ => ⟨S65536x256, .bf16⟩
  | .hbm, ⟨50, _⟩ => ⟨S65536x3328, .f32⟩
  | .hbm, ⟨51, _⟩ => ⟨S65536x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6912, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x3328, .f32⟩
  | .local _ .vmem, ⟨15, _⟩ => ⟨S256x3328, .f32⟩
  | .local _ .vmem, ⟨16, _⟩ => ⟨S256x2048, .bf16⟩
  | .local _ .vmem, ⟨17, _⟩ => ⟨S256x2048, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6912 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3328 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjRefIdeal.lean ====
abbrev S32x2048x1024 : Shape := ⟨3, ![32, 2048, 1024]⟩
abbrev S32x2048 : Shape := ⟨2, ![32, 2048]⟩
abbrev S1x1024 : Shape := ⟨2, ![1, 1024]⟩
abbrev S1x1024x6912 : Shape := ⟨3, ![1, 1024, 6912]⟩
abbrev S1024 : Shape := ⟨1, ![1024]⟩
abbrev S_ : Shape := ⟨0, ![]⟩
abbrev S32x2048x1 : Shape := ⟨3, ![32, 2048, 1]⟩
abbrev S1x1x1024 : Shape := ⟨3, ![1, 1, 1024]⟩
abbrev S1024x6912 : Shape := ⟨2, ![1024, 6912]⟩
abbrev S32x2048x6912 : Shape := ⟨3, ![32, 2048, 6912]⟩
abbrev S32x2048x16x64 : Shape := ⟨4, ![32, 2048, 16, 64]⟩
abbrev S8 : Shape := ⟨1, ![8]⟩
abbrev S1x1x8 : Shape := ⟨3, ![1, 1, 8]⟩
abbrev S32x2048x8 : Shape := ⟨3, ![32, 2048, 8]⟩
abbrev S32x2048x1x8 : Shape := ⟨4, ![32, 2048, 1, 8]⟩
abbrev S32x2048x16x16 : Shape := ⟨4, ![32, 2048, 16, 16]⟩
abbrev S32x2048x16x8 : Shape := ⟨4, ![32, 2048, 16, 8]⟩
abbrev S32x2048x16x48 : Shape := ⟨4, ![32, 2048, 16, 48]⟩
abbrev S32x2048x256 : Shape := ⟨3, ![32, 2048, 256]⟩
abbrev S32x2048x4x64 : Shape := ⟨4, ![32, 2048, 4, 64]⟩
abbrev S32x2048x4x16 : Shape := ⟨4, ![32, 2048, 4, 16]⟩
abbrev S32x2048x4x8 : Shape := ⟨4, ![32, 2048, 4, 8]⟩
abbrev S32x2048x4x48 : Shape := ⟨4, ![32, 2048, 4, 48]⟩
abbrev S32x2048x3328 : Shape := ⟨3, ![32, 2048, 3328]⟩
abbrev S32x2048x2048 : Shape := ⟨3, ![32, 2048, 2048]⟩
abbrev S65536x1024 : Shape := ⟨2, ![65536, 1024]⟩
abbrev S65536x256 : Shape := ⟨2, ![65536, 256]⟩
abbrev S65536x3328 : Shape := ⟨2, ![65536, 3328]⟩
abbrev S65536x2048 : Shape := ⟨2, ![65536, 2048]⟩

abbrev nBuf : Space → Nat
  | .hbm => 131
  | .vmem => 0
  | .smem => 0
  | _ => 0

abbrev hbmTy0_0 (i : Nat) : BufTy := match i % 128 with
  | 0 => ⟨S32x2048x1024, .f32⟩
  | 1 => ⟨S32x2048, .i32⟩
  | 2 => ⟨S1x1024, .f32⟩
  | 3 => ⟨S1x1024x6912, .f32⟩
  | 4 => ⟨S1024, .f32⟩
  | 5 => ⟨S32x2048x1024, .f32⟩
  | 6 => ⟨S_, .f32⟩
  | 7 => ⟨S32x2048, .f32⟩
  | 8 => ⟨S32x2048x1, .f32⟩
  | 9 => ⟨S_, .f32⟩
  | 10 => ⟨S32x2048x1, .f32⟩
  | 11 => ⟨S32x2048x1, .f32⟩
  | 12 => ⟨S_, .f32⟩
  | 13 => ⟨S32x2048x1, .f32⟩
  | 14 => ⟨S32x2048x1, .f32⟩
  | 15 => ⟨S32x2048x1, .f32⟩
  | 16 => ⟨S32x2048x1024, .f32⟩
  | 17 => ⟨S32x2048x1024, .f32⟩
  | 18 => ⟨S1x1x1024, .f32⟩
  | 19 => ⟨S32x2048x1024, .f32⟩
  | 20 => ⟨S32x2048x1024, .f32⟩
  | 21 => ⟨S1024x6912, .f32⟩
  | 22 => ⟨S32x2048x6912, .f32⟩
  | 23 => ⟨S32x2048x1024, .f32⟩
  | 24 => ⟨S32x2048x16x64, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S32x2048, .f32⟩
  | 42 => ⟨S32x2048x1, .f32⟩
  | 43 => ⟨S1x1x8, .f32⟩
  | 44 => ⟨S32x2048x8, .f32⟩
  | 45 => ⟨S32x2048x8, .f32⟩
  | 46 => ⟨S32x2048x8, .f32⟩
  | 47 => ⟨S32x2048x8, .f32⟩
  | 48 => ⟨S32x2048x1x8, .f32⟩
  | 49 => ⟨S32x2048x8, .f32⟩
  | 50 => ⟨S32x2048x1x8, .f32⟩
  | 51 => ⟨S32x2048x16x16, .f32⟩
  | 52 => ⟨S32x2048x16x8, .f32⟩
  | 53 => ⟨S32x2048x16x8, .f32⟩
  | 54 => ⟨S32x2048x16x8, .f32⟩
  | 55 => ⟨S32x2048x16x8, .f32⟩
  | 56 => ⟨S32x2048x16x8, .f32⟩
  | 57 => ⟨S32x2048x16x8, .f32⟩
  | 58 => ⟨S32x2048x16x8, .f32⟩
  | 59 => ⟨S32x2048x16x8, .f32⟩
  | 60 => ⟨S32x2048x16x8, .f32⟩
  | 61 => ⟨S32x2048x16x8, .f32⟩
  | 62 => ⟨S32x2048x16x8, .f32⟩
  | 63 => ⟨S32x2048x16x8, .f32⟩
  | 64 => ⟨S32x2048x16x16, .f32⟩
  | 65 => ⟨S32x2048x16x48, .f32⟩
  | 66 => ⟨S32x2048x16x64, .f32⟩
  | 67 => ⟨S32x2048x256, .f32⟩
  | 68 => ⟨S32x2048x4x64, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S32x2048, .f32⟩
  | 86 => ⟨S32x2048x1, .f32⟩
  | 87 => ⟨S1x1x8, .f32⟩
  | 88 => ⟨S32x2048x8, .f32⟩
  | 89 => ⟨S32x2048x8, .f32⟩
  | 90 => ⟨S32x2048x8, .f32⟩
  | 91 => ⟨S32x2048x8, .f32⟩
  | 92 => ⟨S32x2048x1x8, .f32⟩
  | 93 => ⟨S32x2048x8, .f32⟩
  | 94 => ⟨S32x2048x1x8, .f32⟩
  | 95 => ⟨S32x2048x4x16, .f32⟩
  | 96 => ⟨S32x2048x4x8, .f32⟩
  | 97 => ⟨S32x2048x4x8, .f32⟩
  | 98 => ⟨S32x2048x4x8, .f32⟩
  | 99 => ⟨S32x2048x4x8, .f32⟩
  | 100 => ⟨S32x2048x4x8, .f32⟩
  | 101 => ⟨S32x2048x4x8, .f32⟩
  | 102 => ⟨S32x2048x4x8, .f32⟩
  | 103 => ⟨S32x2048x4x8, .f32⟩
  | 104 => ⟨S32x2048x4x8, .f32⟩
  | 105 => ⟨S32x2048x4x8, .f32⟩
  | 106 => ⟨S32x2048x4x8, .f32⟩
  | 107 => ⟨S32x2048x4x8, .f32⟩
  | 108 => ⟨S32x2048x4x16, .f32⟩
  | 109 => ⟨S32x2048x4x48, .f32⟩
  | 110 => ⟨S32x2048x4x64, .f32⟩
  | 111 => ⟨S32x2048x256, .f32⟩
  | 112 => ⟨S32x2048x3328, .f32⟩
  | 113 => ⟨S32x2048x2048, .f32⟩
  | 114 => ⟨S32x2048x2048, .f32⟩
  | 115 => ⟨S32x2048x2048, .f32⟩
  | 116 => ⟨S_, .f32⟩
  | 117 => ⟨S32x2048x2048, .f32⟩
  | 118 => ⟨S32x2048x2048, .f32⟩
  | 119 => ⟨S_, .f32⟩
  | 120 => ⟨S32x2048x2048, .f32⟩
  | 121 => ⟨S32x2048x2048, .f32⟩
  | 122 => ⟨S65536x1024, .f32⟩
  | 123 => ⟨S65536x1024, .bf16⟩
  | 124 => ⟨S65536x256, .f32⟩
  | 125 => ⟨S65536x256, .bf16⟩
  | 126 => ⟨S65536x256, .f32⟩
  | 127 => ⟨S65536x256, .bf16⟩
  | _ => ⟨S32x2048x1024, .f32⟩

abbrev hbmTy0_1 (i : Nat) : BufTy := match i % 128 with
  | 0 => ⟨S65536x3328, .f32⟩
  | 1 => ⟨S65536x2048, .f32⟩
  | 2 => ⟨S65536x2048, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_cst_8 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_12 : Ref sig .tc := ⟨.hbm, 116, rfl⟩
abbrev main_v99 : Ref sig .tc := ⟨.hbm, 117, rfl⟩
abbrev main_v100 : Ref sig .tc := ⟨.hbm, 118, rfl⟩
abbrev main_cst_13 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩

abbrev nD : Nat := 1
abbrev τ : Topo := Topo.v7x

variable {F : FTy → Type} [FloatOps F]
-- ==== MemKv.lean ====
abbrev S32x256x1024 : Shape := ⟨3, ![32, 256, 1024]⟩
abbrev S1x1024 : Shape := ⟨2, ![1, 1024]⟩
abbrev S1x1024x1024 : Shape := ⟨3, ![1, 1024, 1024]⟩
abbrev S8192x1024 : Shape := ⟨2, ![8192, 1024]⟩
abbrev S1024 : Shape := ⟨1, ![1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x1024, .f32⟩
  | .hbm, ⟨3, _⟩ => ⟨S8192x1024, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvRefIdeal.lean ====
abbrev S32x256x1024 : Shape := ⟨3, ![32, 256, 1024]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x1024 : Shape := ⟨2, ![1024, 1024]⟩
abbrev S8192x1024 : Shape := ⟨2, ![8192, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1024, .f32⟩
  | .hbm, ⟨2, _⟩ => ⟨S1x1024x1024, .f32⟩
  | .hbm, ⟨3, _⟩ => ⟨S1024, .f32⟩
  | .hbm, ⟨4, _⟩ => ⟨S32x256x1024, .f32⟩
  | .hbm, ⟨5, _⟩ => ⟨S_, .f32⟩
  | .hbm, ⟨6, _⟩ => ⟨S32x256, .f32⟩
  | .hbm, ⟨7, _⟩ => ⟨S32x256x1, .f32⟩
  | .hbm, ⟨8, _⟩ => ⟨S_, .f32⟩
  | .hbm, ⟨9, _⟩ => ⟨S32x256x1, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S32x256x1, .f32⟩
  | .hbm, ⟨15, _⟩ => ⟨S32x256x1024, .f32⟩
  | .hbm, ⟨16, _⟩ => ⟨S32x256x1024, .f32⟩
  | .hbm, ⟨17, _⟩ => ⟨S1x1x1024, .f32⟩
  | .hbm, ⟨18, _⟩ => ⟨S32x256x1024, .f32⟩
  | .hbm, ⟨19, _⟩ => ⟨S32x256x1024, .f32⟩
  | .hbm, ⟨20, _⟩ => ⟨S1024x1024, .f32⟩
  | .hbm, ⟨21, _⟩ => ⟨S32x256x1024, .f32⟩
  | .hbm, ⟨22, _⟩ => ⟨S8192x1024, .f32⟩
  | .hbm, ⟨23, _⟩ => ⟨S8192x1024, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Post.lean ====
abbrev S32x2048x1024 : Shape := ⟨3, ![32, 2048, 1024]⟩
abbrev S65536x1024 : Shape := ⟨2, ![65536, 1024]⟩
abbrev S65536x2048 : Shape := ⟨2, ![65536, 2048]⟩
abbrev S8192x1024 : Shape := ⟨2, ![8192, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1024x2048 : Shape := ⟨3, ![1, 1024, 2048]⟩
abbrev S1x128x128 : Shape := ⟨3, ![1, 128, 128]⟩
abbrev S1024x1024 : Shape := ⟨2, ![1024, 1024]⟩
abbrev S1024 : Shape := ⟨1, ![1024]⟩
abbrev S1024x512 : Shape := ⟨2, ![1024, 512]⟩
abbrev S512x1024 : Shape := ⟨2, ![512, 1024]⟩
abbrev S1024x2048 : Shape := ⟨2, ![1024, 2048]⟩
abbrev S128x128 : Shape := ⟨2, ![128, 128]⟩
abbrev S8x128x65536 : Shape := ⟨3, ![8, 128, 65536]⟩
abbrev S256x1024 : Shape := ⟨2, ![256, 1024]⟩
abbrev S256x2048 : Shape := ⟨2, ![256, 2048]⟩
abbrev S8x128x256 : Shape := ⟨3, ![8, 128, 256]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S256x256 : Shape := ⟨2, ![256, 256]⟩
abbrev S128x256 : Shape := ⟨2, ![128, 256]⟩
abbrev S1x128x256 : Shape := ⟨3, ![1, 128, 256]⟩

abbrev nBuf : Space → Nat
  | .hbm => 31
  | .vmem => 24
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S65536x2048, .bf16⟩
  | .hbm, ⟨4, _⟩ => ⟨S8192x1024, .bf16⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x512x1024, .f32⟩
  | .hbm, ⟨9, _⟩ => ⟨S1x1024, .f32⟩
  | .hbm, ⟨10, _⟩ => ⟨S1x1024x2048, .f32⟩
  | .hbm, ⟨11, _⟩ => ⟨S1x128x128, .f32⟩
  | .hbm, ⟨12, _⟩ => ⟨S1x128x128, .f32⟩
  | .hbm, ⟨13, _⟩ => ⟨S65536x1024, .f32⟩
  | .hbm, ⟨14, _⟩ => ⟨S1024x1024, .f32⟩
  | .hbm, ⟨15, _⟩ => ⟨S1024x1024, .bf16⟩
  | .hbm, ⟨16, _⟩ => ⟨S1024, .f32⟩
  | .hbm, ⟨17, _⟩ => ⟨S1024x512, .f32⟩
  | .hbm, ⟨18, _⟩ => ⟨S1024x512, .bf16⟩
  | .hbm, ⟨19, _⟩ => ⟨S512x1024, .f32⟩
  | .hbm, ⟨20, _⟩ => ⟨S512x1024, .bf16⟩
  | .hbm, ⟨21, _⟩ => ⟨S1024, .f32⟩
  | .hbm, ⟨22, _⟩ => ⟨S1024x2048, .f32⟩
  | .hbm, ⟨23, _⟩ => ⟨S1024x2048, .bf16⟩
  | .hbm, ⟨24, _⟩ => ⟨S128x128, .f32⟩
  | .hbm, ⟨25, _⟩ => ⟨S128x128, .f32⟩
  | .hbm, ⟨26, _⟩ => ⟨S1x1024, .f32⟩
  | .hbm, ⟨27, _⟩ => ⟨S1x1024, .f32⟩
  | .hbm, ⟨28, _⟩ => ⟨S65536x1024, .f32⟩
  | .hbm, ⟨29, _⟩ => ⟨S8x128x65536, .f32⟩
  | .hbm, ⟨30, _⟩ => ⟨S8x128x65536, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x512, .bf16⟩
  | .local _ .vmem, ⟨13, _⟩ => ⟨S512x1024, .bf16⟩
  | .local _ .vmem, ⟨14, _⟩ => ⟨S1x1024, .f32⟩
  | .local _ .vmem, ⟨15, _⟩ => ⟨S1024x2048, .bf16⟩
  | .local _ .vmem, ⟨16, _⟩ => ⟨S128x128, .f32⟩
  | .local _ .vmem, ⟨17, _⟩ => ⟨S128x128, .f32⟩
  | .local _ .vmem, ⟨18, _⟩ => ⟨S256x1024, .f32⟩
  | .local _ .vmem, ⟨19, _⟩ => ⟨S256x1024, .f32⟩
  | .local _ .vmem, ⟨20, _⟩ => ⟨S8x128x256, .f32⟩
  | .local _ .vmem, ⟨21, _⟩ => ⟨S8x128x256, .f32⟩
  | .local _ .vmem, ⟨22, _⟩ => ⟨S8x128x256, .f32⟩
  | .local _ .vmem, ⟨23, _⟩ => ⟨S8x128x256, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PostRefIdeal.lean ====
abbrev S32x2048x1024 : Shape := ⟨3, ![32, 2048, 1024]⟩
abbrev S65536x1024 : Shape := ⟨2, ![65536, 1024]⟩
abbrev S65536x2048 : Shape := ⟨2, ![65536, 2048]⟩
abbrev S8192x1024 : Shape := ⟨2, ![8192, 1024]⟩
abbrev S1x1024x1024 : Shape := ⟨3, ![1, 1024, 1024]⟩
abbrev S1x1024 : Shape := ⟨2, ![1, 1024]⟩
abbrev S1x1024x512 : Shape := ⟨3, ![1, 1024, 512]⟩
abbrev S1x512x1024 : Shape := ⟨3, ![1, 512, 1024]⟩
abbrev S1x1024x2048 : Shape := ⟨3, ![1, 1024, 2048]⟩
abbrev S1x128x128 : Shape := ⟨3, ![1, 128, 128]⟩
abbrev S32x2048x2048 : Shape := ⟨3, ![32, 2048, 2048]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x512 : Shape := ⟨2, ![1024, 512]⟩
abbrev S32x2048x512 : Shape := ⟨3, ![32, 2048, 512]⟩
abbrev S32x2048x4x128 : Shape := ⟨4, ![32, 2048, 4, 128]⟩
abbrev S32x256x2x4x128 : Shape := ⟨5, ![32, 256, 2, 4, 128]⟩
abbrev S32x256x1x4x128 : Shape := ⟨5, ![32, 256, 1, 4, 128]⟩
abbrev S32x256x4x128 : Shape := ⟨4, ![32, 256, 4, 128]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x128x2048 : Shape := ⟨4, ![32, 4, 128, 2048]⟩
abbrev S512x1024 : Shape := ⟨2, ![512, 1024]⟩
abbrev S1024x2048 : Shape := ⟨2, ![1024, 2048]⟩
abbrev S65536x8x256 : Shape := ⟨3, ![65536, 8, 256]⟩
abbrev S65536x8x128 : Shape := ⟨3, ![65536, 8, 128]⟩
abbrev S128x128 : Shape := ⟨2, ![128, 128]⟩
abbrev S128x65536x8 : Shape := ⟨3, ![128, 65536, 8]⟩
abbrev S8x128x65536 : Shape := ⟨3, ![8, 128, 65536]⟩

abbrev nBuf : Space → Nat
  | .hbm => 106
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S65536x2048, .bf16⟩
  | .hbm, ⟨4, _⟩ => ⟨S8192x1024, .bf16⟩
  | .hbm, ⟨5, _⟩ => ⟨S1x1024x1024, .f32⟩
  | .hbm, ⟨6, _⟩ => ⟨S1x1024, .f32⟩
  | .hbm, ⟨7, _⟩ => ⟨S1x1024x512, .f32⟩
  | .hbm, ⟨8, _⟩ => ⟨S1x512x1024, .f32⟩
  | .hbm, ⟨9, _⟩ => ⟨S1x1024, .f32⟩
  | .hbm, ⟨10, _⟩ => ⟨S1x1024x2048, .f32⟩
  | .hbm, ⟨11, _⟩ => ⟨S1x128x128, .f32⟩
  | .hbm, ⟨12, _⟩ => ⟨S1x128x128, .f32⟩
  | .hbm, ⟨13, _⟩ => ⟨S65536x1024, .f32⟩
  | .hbm, ⟨14, _⟩ => ⟨S65536x1024, .f32⟩
  | .hbm, ⟨15, _⟩ => ⟨S65536x2048, .f32⟩
  | .hbm, ⟨16, _⟩ => ⟨S8192x1024, .f32⟩
  | .hbm, ⟨17, _⟩ => ⟨S32x2048x1024, .f32⟩
  | .hbm, ⟨18, _⟩ => ⟨S32x2048x1024, .f32⟩
  | .hbm, ⟨19, _⟩ => ⟨S32x2048x2048, .f32⟩
  | .hbm, ⟨20, _⟩ => ⟨S32x2048x1024, .f32⟩
  | .hbm, ⟨21, _⟩ => ⟨S32x2048x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S1024x1024, .f32⟩
  | .hbm, ⟨26, _⟩ => ⟨S32x2048x1024, .f32⟩
  | .hbm, ⟨27, _⟩ => ⟨S32x2048x1024, .f32⟩
  | .hbm, ⟨28, _⟩ => ⟨S1024, .f32⟩
  | .hbm, ⟨29, _⟩ => ⟨S32x2048x1024, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | .hbm, ⟨45, _⟩ => ⟨S1024x512, .f32⟩
  | .hbm, ⟨46, _⟩ => ⟨S32x2048x512, .f32⟩
  | .hbm, ⟨47, _⟩ => ⟨S32x2048x4x128, .f32⟩
  | .hbm, ⟨48, _⟩ => ⟨S32x256x2x4x128, .f32⟩
  | .hbm, ⟨49, _⟩ => ⟨S32x256x1x4x128, .f32⟩
  | .hbm, ⟨50, _⟩ => ⟨S32x256x4x128, .f32⟩
  | .hbm, ⟨51, _⟩ => ⟨S32x256x1x4x128, .f32⟩
  | .hbm, ⟨52, _⟩ => ⟨S32x256x4x128, .f32⟩
  | .hbm, ⟨53, _⟩ => ⟨S32x4x2048x256, .f32⟩
  | .hbm, ⟨54, _⟩ => ⟨S_, .f32⟩
  | .hbm, ⟨55, _⟩ => ⟨S32x4x2048x256, .f32⟩
  | .hbm, ⟨56, _⟩ => ⟨S32x4x2048x256, .f32⟩
  | .hbm, ⟨57, _⟩ => ⟨S_, .f32⟩
  | .hbm, ⟨58, _⟩ => ⟨S32x4x2048, .f32⟩
  | .hbm, ⟨59, _⟩ => ⟨S_, .f32⟩
  | .hbm, ⟨60, _⟩ => ⟨S32x4x2048, .f32⟩
  | .hbm, ⟨61, _⟩ => ⟨S32x4x2048, .f32⟩
  | .hbm, ⟨62, _⟩ => ⟨S32x4x2048x1, .f32⟩
  | .hbm, ⟨63, _⟩ => ⟨S32x4x2048x256, .f32⟩
  | .hbm, ⟨64, _⟩ => ⟨S32x4x2048x256, .f32⟩
  | .hbm, ⟨65, _⟩ => ⟨S32x4x2048x256, .f32⟩
  | .hbm, ⟨66, _⟩ => ⟨S_, .f32⟩
  | .hbm, ⟨67, _⟩ => ⟨S32x4x2048, .f32⟩
  | .hbm, ⟨68, _⟩ => ⟨S32x4x2048x1, .f32⟩
  | .hbm, ⟨69, _⟩ => ⟨S32x4x2048x256, .f32⟩
  | .hbm, ⟨70, _⟩ => ⟨S32x4x2048x256, .f32⟩
  | .hbm, ⟨71, _⟩ => ⟨S32x4x128x2048, .f32⟩
  | .hbm, ⟨72, _⟩ => ⟨S32x2048x4x128, .f32⟩
  | .hbm, ⟨73, _⟩ => ⟨S32x2048x512, .f32⟩
  | .hbm, ⟨74, _⟩ => ⟨S512x1024, .f32⟩
  | .hbm, ⟨75, _⟩ => ⟨S32x2048x1024, .f32⟩
  | .hbm, ⟨76, _⟩ => ⟨S32x2048x1024, .f32⟩
  | .hbm, ⟨77, _⟩ => ⟨S1024, .f32⟩
  | .hbm, ⟨78, _⟩ => ⟨S32x2048x1024, .f32⟩
  | .hbm, ⟨79, _⟩ => ⟨S_, .f32⟩
  | .hbm, ⟨80, _⟩ => ⟨S32x2048, .f32⟩
  | .hbm, ⟨81, _⟩ => ⟨S32x2048x1, .f32⟩
  | .hbm, ⟨82, _⟩ => ⟨S_, .f32⟩
  | .hbm, ⟨83, _⟩ => ⟨S32x2048x1, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S32x2048x1, .f32⟩
  | .hbm, ⟨89, _⟩ => ⟨S32x2048x1024, .f32⟩
  | .hbm, ⟨90, _⟩ => ⟨S32x2048x1024, .f32⟩
  | .hbm, ⟨91, _⟩ => ⟨S1x1x1024, .f32⟩
  | .hbm, ⟨92, _⟩ => ⟨S32x2048x1024, .f32⟩
  | .hbm, ⟨93, _⟩ => ⟨S32x2048x1024, .f32⟩
  | .hbm, ⟨94, _⟩ => ⟨S1024x2048, .f32⟩
  | .hbm, ⟨95, _⟩ => ⟨S32x2048x2048, .f32⟩
  | .hbm, ⟨96, _⟩ => ⟨S65536x8x256, .f32⟩
  | .hbm, ⟨97, _⟩ => ⟨S65536x8x128, .f32⟩
  | .hbm, ⟨98, _⟩ => ⟨S128x128, .f32⟩
  | .hbm, ⟨99, _⟩ => ⟨S128x65536x8, .f32⟩
  | .hbm, ⟨100, _⟩ => ⟨S8x128x65536, .f32⟩
  | .hbm, ⟨101, _⟩ => ⟨S65536x8x128, .f32⟩
  | .hbm, ⟨102, _⟩ => ⟨S128x128, .f32⟩
  | .hbm, ⟨103, _⟩ => ⟨S128x65536x8, .f32⟩
  | .hbm, ⟨104, _⟩ => ⟨S8x128x65536, .f32⟩
  | .hbm, ⟨105, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_2 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_6 : Ref sig .tc := ⟨.hbm, 79, rfl⟩
abbrev main_v59 : Ref sig .tc := ⟨.hbm, 80, rfl⟩
abbrev main_v60 : Ref sig .tc := ⟨.hbm, 81, rfl⟩
abbrev main_cst_7 : Ref sig .tc := ⟨.hbm, 82, rfl⟩
abbrev main_v61 : Ref sig .tc := ⟨.hbm, 83, rfl⟩
abbrev main_v62 : Ref sig .tc := ⟨.hbm, 84, rfl⟩
abbrev main_cst_8 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Pack.lean ====
abbrev S1x16384x1024 : Shape := ⟨3, ![1, 16384, 1024]⟩
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PackRef.lean ====
abbrev S1x16384x1024 : Shape := ⟨3, ![1, 16384, 1024]⟩
abbrev S16384x1024 : Shape := ⟨2, ![16384, 1024]⟩
abbrev S16384x4x2x128 : Shape := ⟨4, ![16384, 4, 2, 128]⟩
abbrev S16384x4x1x128 : Shape := ⟨4, ![16384, 4, 1, 128]⟩
abbrev S16384x4x128 : Shape := ⟨3, ![16384, 4, 128]⟩
abbrev S_ : Shape := ⟨0, ![]⟩
abbrev S65536x128 : Shape := ⟨2, ![65536, 128]⟩

abbrev nBuf : Space → Nat
  | .hbm => 15
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | .hbm, ⟨3, _⟩ => ⟨S16384x1024, .f32⟩
  | .hbm, ⟨4, _⟩ => ⟨S16384x1024, .i32⟩
  | .hbm, ⟨5, _⟩ => ⟨S16384x4x2x128, .i32⟩
  | .hbm, ⟨6, _⟩ => ⟨S16384x4x1x128, .i32⟩
  | .hbm, ⟨7, _⟩ => ⟨S16384x4x128, .i32⟩
  | .hbm, ⟨8, _⟩ => ⟨S_, .i32⟩
  | .hbm, ⟨9, _⟩ => ⟨S16384x4x128, .i32⟩
  | .hbm, ⟨10, _⟩ => ⟨S16384x4x128, .i32⟩
  | .hbm, ⟨11, _⟩ => ⟨S16384x4x1x128, .i32⟩
  | .hbm, ⟨12, _⟩ => ⟨S16384x4x128, .i32⟩
  | .hbm, ⟨13, _⟩ => ⟨S16384x4x128, .i32⟩
  | .hbm, ⟨14, _⟩ => ⟨S65536x128, .i32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [BitOps F]
-- ==== Proof.Pack.Kernel.lean ====
/- The table of packed words: what one run of the kernel's body leaves in its block. The body stores four
   times, each time every fourth row of the block. -/
module

public import proofs.«01_k».proof.Proof.Gen.Pack.Frame
public import proofs.«01_k».proof.Proof.Gen.Pack.Skeleton
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.Pack.Value
open Cert.Pack Cert.Pack.Gen

variable {F : FTy → Type} [BitOps F]

/-- The word of a number: rounded to sixteen bits, its bits in the upper half. -/
def bits (v : F .f32) : BitVec 32 :=
  BitOps.toBits (FloatOps.extf .f32 bitsLt_bf16_f32 (FloatOps.truncf .bf16 bitsLt_bf16_f32 v))

/-- The word of two numbers: the first's bits in the lower half, the second's in the upper half. -/
def pair (v w : F .f32) : BitVec 32 := IntOp.ori (IntOp.shrui .vector (bits v) 16#32) (bits w)

/-- The block of words of a block of rows: row `4 e + p` of the block, lane `l`, holds row `e`'s numbers `l` of
    the `p`-th pair of runs of 128. -/
def words (x : Vec F S512x1024 .f32) : Vec F S2048x128 .i32 := fun y =>
  pair (x (ix2 (⟨(y 0).val / 4, by have h : (y 0).val < 2048 := (y 0).isLt; omega⟩ : Fin 512)
      (⟨(y 0).val % 4 * 256 + (y 1).val, by have h : (y 1).val < 128 := (y 1).isLt; omega⟩ : Fin 1024)))
    (x (ix2 (⟨(y 0).val / 4, by have h : (y 0).val < 2048 := (y 0).isLt; omega⟩ : Fin 512)
      (⟨(y 0).val % 4 * 256 + 128 + (y 1).val, by have h : (y 1).val < 128 := (y 1).isLt; omega⟩ : Fin 1024)))

/-- Every fourth row of the block, from row `p` on: what one store writes. -/
abbrev fourth (p : ℕ) (h : ∀ a, S512x128.size a = 0 ∨ (![p, 0] : Fin 2 → ℕ) a + (![4, 1] : Fin 2 → ℕ) a * (S512x128.size a - 1) < S2048x128.size a) :
    Rect S2048x128 :=
  ⟨(⟨![p, 0], S512x128.size, ![4, 1], h⟩ : LoadRect S2048x128), spos_4_1⟩

/-- A run of 128 numbers of every row, from number `k` on: what one load reads. -/
abbrev run (k : ℕ) (h : ∀ a, (![0, k] : Fin 2 → ℕ) a + S512x128.size a ≤ S512x1024.size a) : Rect S512x1024 :=
  Rect.unit (s := S512x1024) ![0, k] S512x128.size h

/-- A row of the block is one of the rows that the store of its remainder by four writes. -/
theorem mem_fourth (p : ℕ) (h) (y : S2048x128.Idx) (hy : (y 0).val % 4 = p) : y ∈ (fourth p h).set := by
  refine (LoadRect.mem_set _).mpr fun a => ?_
  have h0 : (y 0).val < 2048 := (y 0).isLt
  have h1 : (y 1).val < 128 := (y 1).isLt
  match a with
  | ⟨0, _⟩ => exact ⟨(y 0).val / 4, show (y 0).val / 4 < 512 by omega, show (y 0).val = p + 4 * ((y 0).val / 4) by omega⟩
  | ⟨1, _⟩ => exact ⟨(y 1).val, show (y 1).val < 128 by omega, show (y 1).val = 0 + 1 * (y 1).val by omega⟩

/-- The words of two runs are the block's words at the rows that their store writes. -/
theorem words_fourth (p : ℕ) (hp : p < 4) (h h1 h2) (x : Vec F S512x1024 .f32) (j : S512x128.Idx) :
    pair (View.ld x (run (p * 256) h1) j) (View.ld x (run (p * 256 + 128) h2) j) = words x ((fourth p h).emb j) := by
  have hj0 : (j 0).val < 512 := (j 0).isLt
  have hj1 : (j 1).val < 128 := (j 1).isLt
  unfold words
  congr 1
  · refine congrArg x (funext fun a => Fin.ext ?_)
    match a with
    | ⟨0, _⟩ => show 0 + 1 * (j 0).val = (p + 4 * (j 0).val) / 4; omega
    | ⟨1, _⟩ => show p * 256 + 1 * (j 1).val = (p + 4 * (j 0).val) % 4 * 256 + (0 + 1 * (j 1).val); omega
  · refine congrArg x (funext fun a => Fin.ext ?_)
    match a with
    | ⟨0, _⟩ => show 0 + 1 * (j 0).val = (p + 4 * (j 0).val) / 4; omega
    | ⟨1, _⟩ => show p * 256 + 128 + 1 * (j 1).val = (p + 4 * (j 0).val) % 4 * 256 + 128 + (0 + 1 * (j 1).val); omega

/-- What the first store writes, at an index. -/
theorem pay3_at (v w : Vec F S512x128 .f32) (j : S512x128.Idx) : k0_pay3 v w j = pair (v j) (w j) := by
  pointwise [k0_pay3, pair, bits]
/-- What the second store writes, at an index. -/
theorem pay4_at (v w : Vec F S512x128 .f32) (j : S512x128.Idx) : k0_pay4 v w j = pair (v j) (w j) := by
  pointwise [k0_pay4, pair, bits]
/-- What the third store writes, at an index. -/
theorem pay1_at (v w : Vec F S512x128 .f32) (j : S512x128.Idx) :
    k0_pay1 (k0_pay5 v) (k0_pay6 w) 16#32 j = pair (v j) (w j) := by
  pointwise [k0_pay1, k0_pay5, k0_pay6, pair, bits]
/-- What the fourth store writes, at an index. -/
theorem pay2_at (v w : Vec F S512x128 .f32) (j : S512x128.Idx) : k0_pay2 v w j = pair (v j) (w j) := by
  pointwise [k0_pay2, pair, bits]

set_option maxHeartbeats 1000000 in
/-- The body, run on a block of rows and a block of anything, leaves the rows as they were and the words of
    the rows in the other block. -/
theorem sound_kernel (c : Dev nD) (E : Set ℕ) (i : grid0.Coords) (arg1 : Memref sig .tc .vmem S512x1024 .f32)
    (harg1 : arg1.IsWhole) (arg2 : Memref sig .tc .vmem S2048x128 .i32) (harg2 : arg2.IsWhole)
    (x : Vec F S512x1024 .f32) (K : PUnit → sProp (MT nD τ sig Unit (Elt F) ℕ (UR sig nD τ) ℕ)) :
    iprop(owns (c : Thread nD τ) arg1 fullShare x ∗ (∃ d, owns (c : Thread nD τ) arg2 fullShare d)
        ∗ (iprop(owns (c : Thread nD τ) arg1 fullShare x ∗ owns (c : Thread nD τ) arg2 fullShare (words x)) -∗ K ⟨⟩))
      ⊢ wp frame (wpE (defs₀ (F := F)) Variants.none c none) E (cc0_pack_table i arg1 harg1 arg2 harg2) K := by
  simp only [cc0_pack_table_eq_skeleton]; unfold cc0_pack_table_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  funext y
  have cover (p0 p1 p2 p3 : Vec F S512x128 .i32) : ∃ q ∈ ([⟨fourth 3 inb_S2048x128_S512x128_3_0_s_4_1, p3⟩,
      ⟨fourth 2 inb_S2048x128_S512x128_2_0_s_4_1, p2⟩, ⟨fourth 1 inb_S2048x128_S512x128_1_0_s_4_1, p1⟩,
      ⟨fourth 0 inb_S2048x128_S512x128_0_0_s_4_1, p0⟩] : List (View.Piece (Elt F) S2048x128 .i32)), y ∈ q.1.set := by
    have h : (y 0).val % 4 = 3 ∨ (y 0).val % 4 = 2 ∨ (y 0).val % 4 = 1 ∨ (y 0).val % 4 = 0 := by omega
    rcases h with h | h | h | h
    · exact ⟨_, .head _, mem_fourth 3 _ y h⟩
    · exact ⟨_, .tail _ (.head _), mem_fourth 2 _ y h⟩
    · exact ⟨_, .tail _ (.tail _ (.head _)), mem_fourth 1 _ y h⟩
    · exact ⟨_, .tail _ (.tail _ (.tail _ (.head _))), mem_fourth 0 _ y h⟩
  refine (View.read_writes_apply_eq_canon _ _ y _ (cover _ _ _ _)).trans
    (View.canon_apply_of_pieces (words _) _ ?_ y (cover _ _ _ _))
  simp only [List.forall_mem_cons, List.not_mem_nil, false_implies, implies_true, and_true]
  refine ⟨fun j => ?_, fun j => ?_, fun j => ?_, fun j => ?_⟩
  · exact (pay2_at _ _ j).trans (words_fourth 3 (by decide) _ inb_S512x1024_S512x128_0_768 inb_S512x1024_S512x128_0_896 _ j)
  · exact (pay1_at _ _ j).trans (words_fourth 2 (by decide) _ inb_S512x1024_S512x128_0_512 inb_S512x1024_S512x128_0_640 _ j)
  · exact (pay4_at _ _ j).trans (words_fourth 1 (by decide) _ inb_S512x1024_S512x128_0_256 inb_S512x1024_S512x128_0_384 _ j)
  · exact (pay3_at _ _ j).trans (words_fourth 0 (by decide) _ inb_S512x1024_S512x128_0_0 inb_S512x1024_S512x128_0_128 _ j)

end Cert.Pack.Value

end
-- ==== Proof.Pack.Run.lean ====
/- The table of packed words: the launch. Every point's body finds its block of rows and leaves its block of
   words (Kernel), so the kernel runs to its end, and its arguments end as they were. -/
module

public import proofs.«01_k».proof.Proof.Pack.Kernel

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

namespace Cert.Pack.Value
open Cert.Pack Cert.Pack.Gen

variable {F : FTy → Type} [BitOps F]

variable (m : (ℓ : Loc nD τ sig) → Buf (Elt F) ℓ) (ρ : Dev nD → PrngReg)

/-- What the launch is proved with: the arrays as the region finds them; after the body of a point, the rows'
    buffer at its block and the words' buffer at the words of that block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => words (iblk m c 0 t)
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- The body leaves the rows as they were, -/
theorem after0_0 (c : Dev nD) (t : Fin cfg0.N) : (dats m 0 c).after 0 t = iblk m c 0 t := by dsimp only [dats]
/-- and their words. -/
theorem after0_1 (c : Dev nD) (t : Fin cfg0.N) : (dats m 0 c).after 1 t = words (iblk m c 0 t) := by
  dsimp only [dats]

/-- The body finds its block of rows. -/
theorem before0_0 (c : Dev nD) (t : Fin cfg0.N) (d) : (dats m 0 c).before 0 t d = iblk m c 0 t :=
  before0_0_of m (dats m 0 c) (A_eq m c 0) (after0_0 m c) t d

/-- What the body is called with at a point, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body that the pipeline calls at a point. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The kernel runs to its end, with every array as the points leave it and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel runs to its end, with every array as the points leave it. -/
theorem run_main : θ_run defs (onTc (τ := τ) (main (F := F))) (s₀ m ρ) (Pipeline.FramePost cfgs (dats m) 0 (V m)) :=
  (θ_run defs _ _).mono (fun _ h => h.1) (run_quiescent m ρ)

/-- The kernel leaves its argument as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ))
    ((θ_run defs _ _).mono (fun _ h => h.2) (run_quiescent m ρ))

end Cert.Pack.Value

end
-- ==== Proof.Frames.lean ====
/- The frame claims: every program runs to its end, leaves its arguments as they were, and every semaphore
   counter ends at zero. -/
module

public import proofs.«01_k».proof.Defs
public import proofs.«01_k».proof.Proof.Gen.Swa.Frame
public import proofs.«01_k».proof.Proof.Gen.SwaIdeal.Frame
public import proofs.«01_k».proof.Proof.Gen.SwaRefIdeal.Run
public import proofs.«01_k».proof.Proof.Gen.InProj.Frame
public import proofs.«01_k».proof.Proof.Gen.InProjIdeal.Frame
public import proofs.«01_k».proof.Proof.Gen.InProjRefIdeal.Run
public import proofs.«01_k».proof.Proof.Gen.MemKv.Frame
public import proofs.«01_k».proof.Proof.Gen.MemKvIdeal.Frame
public import proofs.«01_k».proof.Proof.Gen.MemKvRefIdeal.Run
public import proofs.«01_k».proof.Proof.Gen.Post.Frame
public import proofs.«01_k».proof.Proof.Gen.PostIdeal.Frame
public import proofs.«01_k».proof.Proof.Gen.PostRefIdeal.Run
public import proofs.«01_k».proof.Proof.Pack.Run
public import proofs.«01_k».proof.Proof.Gen.PackRef.Run
public import proofs.«01_k».proof.Proof.Gen.Pre_swa_finite
public import proofs.«01_k».proof.Proof.Gen.Pre_post_finite
public import Idealize.ShloMosaic.Lib.Claim

@[expose] public section

set_option maxRecDepth 16384

noncomputable section

namespace Cert.Frames

open Idealize.ShloMosaic Idealize.SL.Sem

attribute [local instance] Cert.Swa.Gen.facts Cert.SwaIdeal.Gen.facts Cert.SwaRefIdeal.Gen.facts
  Cert.InProj.Gen.facts Cert.InProjIdeal.Gen.facts Cert.InProjRefIdeal.Gen.facts
  Cert.MemKv.Gen.facts Cert.MemKvIdeal.Gen.facts Cert.MemKvRefIdeal.Gen.facts
  Cert.Post.Gen.facts Cert.PostIdeal.Gen.facts Cert.PostRefIdeal.Gen.facts
  Cert.Pack.Gen.facts Cert.PackRef.Gen.facts
  Cert.Pre_swa_finite.Gen.facts Cert.Pre_post_finite.Gen.facts

/-- The attention kernel runs and leaves its arguments. -/
theorem swa : Cert.quiescent_Swa := fun m ρ _ => Cert.Swa.Gen.frame m ρ
/-- The attention kernel over exact arithmetic runs and leaves its arguments. -/
theorem swaIdeal : Cert.quiescent_SwaIdeal := fun m ρ _ => Cert.SwaIdeal.Gen.frame m ρ
/-- The attention kernel over exact arithmetic runs and leaves its arguments, where they are finite. -/
theorem swaIdeal_finite : Cert.quiescent_SwaIdeal_pre_swa_finite := fun m ρ _ => Cert.SwaIdeal.Gen.frame m ρ
/-- The projection kernel runs and leaves its arguments. -/
theorem inProj : Cert.quiescent_InProj := fun m ρ _ => Cert.InProj.Gen.frame m ρ
/-- The projection kernel over exact arithmetic runs and leaves its arguments. -/
theorem inProjIdeal : Cert.quiescent_InProjIdeal := fun m ρ _ => Cert.InProjIdeal.Gen.frame m ρ
/-- The memory's kernel runs and leaves its arguments. -/
theorem memKv : Cert.quiescent_MemKv := fun m ρ _ => Cert.MemKv.Gen.frame m ρ
/-- The memory's kernel over exact arithmetic runs and leaves its arguments. -/
theorem memKvIdeal : Cert.quiescent_MemKvIdeal := fun m ρ _ => Cert.MemKvIdeal.Gen.frame m ρ
/-- The kernel after the mixers runs and leaves its arguments. -/
theorem post : Cert.quiescent_Post := fun m ρ _ => Cert.Post.Gen.frame m ρ
/-- The kernel after the mixers over exact arithmetic runs and leaves its arguments. -/
theorem postIdeal : Cert.quiescent_PostIdeal := fun m ρ _ => Cert.PostIdeal.Gen.frame m ρ
/-- The kernel after the mixers over exact arithmetic runs and leaves its arguments, where they are finite. -/
theorem postIdeal_finite : Cert.quiescent_PostIdeal_pre_post_finite := fun m ρ _ => Cert.PostIdeal.Gen.frame m ρ
/-- The table's kernel runs and leaves its argument. -/
theorem pack : Cert.quiescent_Pack := fun m ρ _ => Cert.Pack.Value.frame m ρ

/-- The reference of the attention runs and leaves its arguments. -/
theorem swaRef : Cert.quiescent_SwaRefIdeal := fun m ρ _ =>
  (θ_run Cert.SwaRefIdeal.defs _ _).mono (fun r h => ⟨fun c => (h c).2, sem_eq_zero_of_no_sems (by decide) r.2⟩)
    (Cert.SwaRefIdeal.Value.run (F := Ideal) m ρ)
/-- The reference of the attention runs and leaves its arguments, where they are finite. -/
theorem swaRef_finite : Cert.quiescent_SwaRefIdeal_pre_swa_finite := fun m ρ _ =>
  (θ_run Cert.SwaRefIdeal.defs _ _).mono (fun r h => ⟨fun c => (h c).2, sem_eq_zero_of_no_sems (by decide) r.2⟩)
    (Cert.SwaRefIdeal.Value.run (F := Ideal) m ρ)
/-- The reference of the projection runs and leaves its arguments. -/
theorem inProjRef : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)
/-- The reference of the memory's keys and values runs and leaves its arguments. -/
theorem memKvRef : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)
/-- The reference of what follows the mixers runs and leaves its arguments. -/
theorem postRef : Cert.quiescent_PostRefIdeal := fun m ρ _ =>
  (θ_run Cert.PostRefIdeal.defs _ _).mono (fun r h => ⟨fun c => (h c).2.2.2, sem_eq_zero_of_no_sems (by decide) r.2⟩)
    (Cert.PostRefIdeal.Value.run (F := Ideal) m ρ)
/-- The reference of what follows the mixers runs and leaves its arguments, where they are finite. -/
theorem postRef_finite : Cert.quiescent_PostRefIdeal_pre_post_finite := fun m ρ _ =>
  (θ_run Cert.PostRefIdeal.defs _ _).mono (fun r h => ⟨fun c => (h c).2.2.2, sem_eq_zero_of_no_sems (by decide) r.2⟩)
    (Cert.PostRefIdeal.Value.run (F := Ideal) m ρ)
/-- The reference of the table runs and leaves its argument. -/
theorem packRef : Cert.quiescent_PackRef := fun m ρ _ =>
  (θ_run Cert.PackRef.defs _ _).mono (fun r h => ⟨fun c => (h c).2, sem_eq_zero_of_no_sems (by decide) r.2⟩)
    (Cert.PackRef.Value.run (F := Bits) m ρ)

end Cert.Frames

end
-- ==== Proof.Finite.lean ====
/- What a precondition of finite arguments gives: every entry is a real number. -/
module

public import Idealize.ShloMosaic.Lib.IdealHost
public import Idealize.ShloMosaic.Lib.ReduceAll
public import Idealize.ShloMosaic.Lib.Pointwise

@[expose] public section

noncomputable section

open Idealize.ShloMosaic

namespace Cert.Finite

/-- The number is real: neither infinity. -/
abbrev Real' (x : EReal) : Prop := ∃ r : ℝ, x = r

/-- The word of the bound is +∞. -/
theorem inf_eq : Ideal.ofBits .f32 0x7F800000#32 = ⊤ := by
  simp [Ideal.ofBits, Ideal.ieee]

/-- A number whose absolute value is below +∞ is real. -/
theorem real_of_abs (x : EReal) (h : Ideal.cmp .olt (max x (-x)) (Ideal.ofBits .f32 0x7F800000#32) = 1#1) :
    Real' x := by
  rw [inf_eq] at h
  induction x using EReal.rec with
  | bot => simp [Ideal.cmp] at h
  | coe r => exact ⟨r, rfl⟩
  | top => simp [Ideal.cmp] at h

/-- Both of two words of one bit are 1 when their conjunction is. -/
theorem both (a b : BitVec 1) (h : IntOp.andi a b = 1#1) : a = 1#1 ∧ b = 1#1 := by
  revert a b
  decide

/-- An array whose test of being finite everywhere is 1 has real entries. -/
theorem real_of_all {s t u : Shape} {axes : List (Fin s.rank)} [Subsingleton t.Idx] (x : FVec Ideal s .f32) (w : FVec Ideal s .f32)
    (hw : ∀ i, w i = Ideal.ofBits .f32 0x7F800000#32) (init : u.Idx → BitVec 1) (h : s.ReducesTo axes t) (hu : 0 < u.numel)
    (j : t.Idx) (e : Host.reduce IntOp.andi (cmpf .olt (Host.absf x) w) init h hu j = 1#1) (i : s.Idx) : Real' (x i) := by
  have := Host.reduce_andi_all _ _ h hu j e i
  refine real_of_abs _ ?_
  rw [← hw i]
  exact this

end Cert.Finite

end
-- ==== Proof.Swa.Softmax.lean ====
/- The scalar mathematics of one query of the attention: scores, of which those outside the window are −∞, and a
   sink that takes part in the normalisation and has no value of its own. -/
module

public import Idealize.ShloMosaic.PureOps
public import Idealize.ShloMosaic.PureOps.Ideal
public import Idealize.ShloMosaic.Lib.IdealHost

@[expose] public section

noncomputable section

open Idealize.ShloMosaic

namespace Cert.Softmax

/-- Key `x` of the two blocks of keys is seen from query `r` of the second block: it is not after the query, at most 127
    before it, and the first block exists. -/
abbrev seen (n r x : ℕ) : Prop := r < x ∧ x ≤ r + 128 ∧ (128 ≤ x ∨ 0 < n)

/-- The scaled product of a query and a key. -/
def score (q k : Fin 64 → EReal) : EReal := (∑ d, q d * k d) * Ideal.ofBits .f32 0x3E000000#32

/-- The largest of the scores and the sink. -/
def peak (s : Fin 256 → EReal) (z : EReal) : EReal := max (Finset.univ.fold max (Ideal.ofBits .f32 0xFF800000#32) s) z

/-- The weight of a score before the normalisation. -/
def weight (s : Fin 256 → EReal) (z : EReal) (j : Fin 256) : EReal := Ideal.exp (s j - peak s z)

/-- The sum of the weights and the sink's weight. -/
def total (s : Fin 256 → EReal) (z : EReal) : EReal := (∑ j, weight s z j) + Ideal.exp (z - peak s z)

/-- The attention that normalises after the product with the values. -/
def after (s : Fin 256 → EReal) (z : EReal) (v : Fin 256 → EReal) : EReal :=
  (∑ j, weight s z j * v j) * Ideal.div 1 (total s z)

/-- The attention that normalises the weights first. -/
def before (s : Fin 256 → EReal) (z : EReal) (v : Fin 256 → EReal) : EReal :=
  ∑ j, Ideal.div (weight s z j) (total s z) * v j

/-- A sum of numbers is the same sum of extended reals. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- The word of −∞ is −∞. -/
theorem neg_inf : Ideal.ofBits .f32 0xFF800000#32 = ⊥ := by
  simp [Ideal.ofBits, Ideal.ieee]

/-- The scale of the scores is a number. -/
theorem scale_real : ∃ r : ℝ, Ideal.ofBits .f32 0x3E000000#32 = r :=
  ⟨1 / 8, by simp [Ideal.ofBits, Ideal.ieee, -EReal.coe_mul]; norm_num⟩

/-- A finite query and a finite key have a finite score. -/
theorem score_real (q k : Fin 64 → EReal) (hq : ∀ d, ∃ r : ℝ, q d = r) (hk : ∀ d, ∃ r : ℝ, k d = r) :
    ∃ r : ℝ, score q k = r := by
  choose a ha using hq
  choose b hb using hk
  obtain ⟨c, hc⟩ := scale_real
  refine ⟨(∑ d, a d * b d) * c, ?_⟩
  unfold score
  rw [hc, EReal.coe_mul, coe_sum]
  simp only [ha, hb, EReal.coe_mul]

/-- Scores below +∞ and a finite sink have a finite peak. -/
theorem peak_real (s : Fin 256 → EReal) (z : ℝ) (hs : ∀ j, s j ≠ ⊤) : ∃ p : ℝ, peak s z = p := by
  have h : ∀ t : Finset (Fin 256), t.fold max (⊥ : EReal) s ≠ ⊤ := by
    intro t
    induction t using Finset.induction_on with
    | empty => simp
    | insert a t ha ih =>
      rw [Finset.fold_insert ha]
      rcases max_choice (s a) (t.fold max ⊥ s) with h | h <;> rw [h]
      · exact hs a
      · exact ih
  have ht : peak s z ≠ ⊤ := by
    unfold peak
    rw [neg_inf]
    rcases max_choice (Finset.univ.fold max ⊥ s) (z : EReal) with h' | h' <;> rw [h']
    · exact h _
    · exact EReal.coe_ne_top z
  have hb : peak s z ≠ ⊥ := fun e =>
    EReal.coe_ne_bot z (le_bot_iff.mp (e ▸ (le_max_right _ _ : (z : EReal) ≤ peak s z)))
  exact ⟨(peak s z).toReal, (EReal.coe_toReal ht hb).symm⟩

/-- A score's weight is a number, not negative. -/
theorem weight_real (s : Fin 256 → EReal) (z : ℝ) (hs : ∀ j, s j ≠ ⊤) (j : Fin 256) :
    ∃ w : ℝ, 0 ≤ w ∧ weight s z j = w := by
  obtain ⟨p, hp⟩ := peak_real s z hs
  unfold weight
  rw [hp]
  rcases h : s j with _ | _ | x
  · exact ⟨0, le_rfl, by rfl⟩
  · exact absurd h (hs j)
  · exact ⟨Real.exp (x - p), (Real.exp_pos _).le, by rfl⟩

/-- A score of −∞ has no weight. -/
theorem weight_bot (s : Fin 256 → EReal) (z : ℝ) (hs : ∀ j, s j ≠ ⊤) (j : Fin 256) (h : s j = ⊥) :
    weight s z j = 0 := by
  obtain ⟨p, hp⟩ := peak_real s z hs
  unfold weight
  rw [hp, h]
  rfl

/-- The sum of the weights is a positive number, for the sink's weight is. -/
theorem total_real (s : Fin 256 → EReal) (z : ℝ) (hs : ∀ j, s j ≠ ⊤) : ∃ l : ℝ, 0 < l ∧ total s z = l := by
  obtain ⟨p, hp⟩ := peak_real s z hs
  choose w hw0 hw using weight_real s z hs
  refine ⟨(∑ j, w j) + Real.exp (z - p), add_pos_of_nonneg_of_pos (Finset.sum_nonneg fun j _ => hw0 j) (Real.exp_pos _), ?_⟩
  unfold total
  rw [hp, EReal.coe_add, coe_sum]
  simp only [hw]
  rfl

/-- A positive number distributes over a sum of extended reals. -/
theorem sum_mul_pos (f : Fin 256 → EReal) (c : ℝ) (hc : 0 ≤ c) (t : Finset (Fin 256)) :
    (∑ j ∈ t, f j) * (c : EReal) = ∑ j ∈ t, f j * (c : EReal) := by
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The two orders of normalisation agree, and only the values inside the window matter. -/
theorem after_eq_before (s : Fin 256 → EReal) (z : ℝ) (v v' : Fin 256 → EReal) (hs : ∀ j, s j ≠ ⊤)
    (hv : ∀ j, s j ≠ ⊥ → v j = v' j) : after s z v = before s z v' := by
  obtain ⟨l, hl, hl'⟩ := total_real s z hs
  unfold after before
  rw [hl', Ideal.div_coe hl.ne', one_mul, sum_mul_pos _ _ (one_div_pos.mpr hl).le]
  refine Finset.sum_congr rfl fun j _ => ?_
  rw [Ideal.div_coe hl.ne']
  by_cases h : s j = ⊥
  · rw [weight_bot s z hs j h]; simp
  · rw [hv j h, mul_right_comm]

end Cert.Softmax

end
-- ==== Proof.Swa.Kernel.lean ====
/- One grid point of the attention: what the kernel computes for the 512 rows of one key head, four query heads of
   128 queries each. -/
module

public import proofs.«01_k».proof.Proof.Gen.SwaIdeal.Frame
public import proofs.«01_k».proof.Proof.Swa.Softmax
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaIdeal.Value
open Cert.SwaIdeal Cert.SwaIdeal.Gen

/-- The one of four that has number `g`. -/
def four {α : Type} (a b c d : α) : ℕ → α
  | 0 => a
  | 1 => b
  | 2 => c
  | _ => d

/-- Row `x` of two tiles of 128 rows, one above the other. -/
def rows (a b : FVec Ideal S128x64 .bf16) (x : Fin 256) (k : Fin 64) : EReal :=
  if h : x.val < 128 then a (ix2 (⟨x.val, h⟩ : Fin 128) k) else b (ix2 (⟨x.val - 128, by omega⟩ : Fin 128) k)

/-- The scores of row `R` of a tile of four heads' queries, −∞ at the keys that are not seen. -/
def scores (n : ℕ) (q : ℕ → FVec Ideal S128x64 .bf16) (a b : FVec Ideal S128x64 .bf16) (R : Fin 512) (x : Fin 256) : EReal :=
  if Softmax.seen n (R.val % 128) x.val then
    Softmax.score (fun k => q (R.val / 128) (ix2 (⟨R.val % 128, by omega⟩ : Fin 128) k)) (rows a b x)
  else ⊥

/-- The number of a row within its head, as words. -/
abbrev rowWord (r : ℕ) : BitVec 32 :=
  Scalar.select
    (IntOp.andi
      (IntOp.xori (IntOp.cmpi .slt (IntOp.remsi .vector (BitVec.ofNat 32 r) (Scalar.select (Scalar.cmpi .eq 128#32 0#32) 1#32 128#32)) 0#32)
        (Scalar.cmpi .slt (Scalar.select (Scalar.cmpi .eq 128#32 0#32) 1#32 128#32) 0#32))
      (IntOp.cmpi .ne (IntOp.remsi .vector (BitVec.ofNat 32 r) (Scalar.select (Scalar.cmpi .eq 128#32 0#32) 1#32 128#32)) 0#32))
    (IntOp.addi (IntOp.remsi .vector (BitVec.ofNat 32 r) (Scalar.select (Scalar.cmpi .eq 128#32 0#32) 1#32 128#32))
      (Scalar.select (Scalar.cmpi .eq 128#32 0#32) 1#32 128#32))
    (IntOp.remsi .vector (BitVec.ofNat 32 r) (Scalar.select (Scalar.cmpi .eq 128#32 0#32) 1#32 128#32))

/-- The word of a row's number within its head is the remainder by 128. -/
theorem rowWord_eq (r : Fin 512) : rowWord r.val = BitVec.ofNat 32 (r.val % 128) :=
  (by decide +kernel : ∀ r : Fin 512, rowWord r.val = BitVec.ofNat 32 (r.val % 128)) r

/-- The kernel's test of a row and a key, as words. -/
def seenWord (n r x : ℕ) : BitVec 1 :=
  IntOp.andi (IntOp.andi (IntOp.cmpi .sgt (BitVec.ofNat 32 x) (BitVec.ofNat 32 r))
      (IntOp.cmpi .sle (BitVec.ofNat 32 x) (IntOp.addi (BitVec.ofNat 32 r) 128#32)))
    (IntOp.ori (IntOp.cmpi .sge (BitVec.ofNat 32 x) 128#32) (Scalar.cmpi .sgt (BitVec.ofNat 32 n) 0#32))

/-- The kernel's test of a row and a key is the window. -/
theorem seenWord_eq (n r x : ℕ) (hn : n < 16) (hr : r < 128) (hx : x < 256) :
    seenWord n r x = if Softmax.seen n r x then 1#1 else 0#1 := by
  unfold seenWord
  rw [WordCmp.addi_ofNat, WordCmp.scalar_cmpi_eq, WordCmp.cmpi_sgt_ofNat (by omega) (by omega),
    WordCmp.cmpi_sle_ofNat (by omega) (by omega), WordCmp.cmpi_sge_ofNat (by omega) (by omega),
    WordCmp.cmpi_sgt_ofNat (by omega) (by omega), WordCmp.andi_ofBool, WordCmp.ori_ofBool, WordCmp.andi_ofBool]
  by_cases h1 : r < x <;> by_cases h2 : x ≤ r + 128 <;> by_cases h3 : 128 ≤ x <;> by_cases h4 : 0 < n <;>
    simp [Softmax.seen, h1, h2, h3, h4]

/-- The kernel's mask at a row and a key. -/
theorem mask_at (i : grid0.Coords) (R : Fin 512) (x : Fin 256) :
    k0_pay6 i (ix2 R x) = if Softmax.seen (i 1).val (R.val % 128) x.val then 1#1 else 0#1 := by
  have h : k0_pay6 i (ix2 R x) = IntOp.andi (IntOp.andi (IntOp.cmpi .sgt (BitVec.ofNat 32 x.val) (rowWord R.val))
      (IntOp.cmpi .sle (BitVec.ofNat 32 x.val) (IntOp.addi (rowWord R.val) 128#32)))
    (IntOp.ori (IntOp.cmpi .sge (BitVec.ofNat 32 x.val) 128#32) (Scalar.cmpi .sgt (BitVec.ofNat 32 (i 1).val) 0#32)) := by
    pointwise [k0_pay6]
  rw [h, rowWord_eq]
  exact seenWord_eq _ _ _ (i 1).isLt (Nat.mod_lt _ (by decide)) x.isLt

/-- The number of a row's head among the four, as the kernel computes it. -/
abbrev heads : IVec S512x1 32 := k0_pay9 (iota .tc S512x1 32 [0] iota_S512x1_d0_w32) 128#32 k0_pay7 k0_pay8 1#32

/-- The words of a row's head. -/
def headWord (r : ℕ) : BitVec 32 :=
  Scalar.select
    (IntOp.andi (IntOp.cmpi .ne (IntOp.subi (BitVec.setWidth 32 (IntOp.cmpi .sgt (BitVec.ofNat 32 r) 0#32))
        (BitVec.setWidth 32 (IntOp.cmpi .slt (BitVec.ofNat 32 r) 0#32))) 1#32)
      (IntOp.cmpi .ne (IntOp.remsi .vector (BitVec.ofNat 32 r) 128#32) 0#32))
    (IntOp.subi (IntOp.divsi .vector (BitVec.ofNat 32 r) 128#32) 1#32)
    (IntOp.divsi .vector (BitVec.ofNat 32 r) 128#32)

/-- The number of a row's head is the row's number divided by 128. -/
theorem heads_at (R : Fin 512) : heads (ix2 R 0) = BitVec.ofNat 32 (R.val / 128) := by
  have h : heads (ix2 R 0) = headWord R.val := by
    pointwise [k0_pay9, k0_pay7, k0_pay8]
    rfl
  rw [h]
  exact (by decide +kernel : ∀ r : Fin 512, headWord r.val = BitVec.ofNat 32 (r.val / 128)) R

/-- The choice of a head's sink. -/
theorem sink_sel (n : ℕ) (h : n < 4) (z0 z1 z2 z3 e : EReal) :
    Scalar.select (IntOp.cmpi .eq (BitVec.ofNat 32 n) 3#32) z3 (Scalar.select (IntOp.cmpi .eq (BitVec.ofNat 32 n) 2#32) z2
      (Scalar.select (IntOp.cmpi .eq (BitVec.ofNat 32 n) 1#32) z1 (Scalar.select (IntOp.cmpi .eq (BitVec.ofNat 32 n) 0#32) z0 e)))
    = four z0 z1 z2 z3 n := by
  interval_cases n <;> rfl

/-- A sum over 256 keys, the first block's and the second's. -/
theorem sum_two (f : Fin 256 → EReal) :
    ∑ x : Fin 256, f x = ∑ x : Fin 128, f (⟨x.val, by omega⟩) + ∑ x : Fin 128, f (⟨128 + x.val, by omega⟩) :=
  Fin.sum_univ_add (a := 128) (b := 128) f

section
variable (g : IVec S512x1 32) (hg : ∀ R : Fin 512, g (ix2 R 0) = BitVec.ofNat 32 (R.val / 128))
  (s : FVec Ideal S512x256 .f32) (z0 z1 z2 z3 : EReal) (R : Fin 512)
include hg

/-- The normalisation of the first key head. -/
theorem inv0 : k0_pay20 (F := Ideal) g s (k0_pay15 g z0) (k0_pay16 g) z1 z2 z3 (ix2 R 0)
    = Ideal.div 1 (Softmax.total (fun x => s (ix2 R x)) (four z0 z1 z2 z3 (R.val / 128))) := by
  rw [← sink_sel (R.val / 128) (by omega) z0 z1 z2 z3 (Ideal.ofBits .f32 0x00000000#32), ← hg R]
  pointwise [k0_pay20, k0_pay19, k0_pay18, k0_pay17, k0_pay16, k0_pay15, Softmax.total, Softmax.weight, Softmax.peak]

/-- The weights of the first key head. -/
theorem weight0 (x : Fin 256) : k0_pay21 (F := Ideal) g s (k0_pay15 g z0) (k0_pay16 g) z1 z2 z3 (ix2 R x)
    = Softmax.weight (fun x => s (ix2 R x)) (four z0 z1 z2 z3 (R.val / 128)) x := by
  rw [← sink_sel (R.val / 128) (by omega) z0 z1 z2 z3 (Ideal.ofBits .f32 0x00000000#32), ← hg R]
  pointwise [k0_pay21, k0_pay19, k0_pay18, k0_pay17, k0_pay16, k0_pay15, Softmax.weight, Softmax.peak]

/-- The normalisation of the second key head. -/
theorem inv1 : k0_pay28 (F := Ideal) g s (k0_pay23 g z0 z1) (k0_pay24 g) z2 z3 (ix2 R 0)
    = Ideal.div 1 (Softmax.total (fun x => s (ix2 R x)) (four z0 z1 z2 z3 (R.val / 128))) := by
  rw [← sink_sel (R.val / 128) (by omega) z0 z1 z2 z3 (Ideal.ofBits .f32 0x00000000#32), ← hg R]
  pointwise [k0_pay28, k0_pay27, k0_pay26, k0_pay25, k0_pay24, k0_pay23, Softmax.total, Softmax.weight, Softmax.peak]

/-- The weights of the second key head. -/
theorem weight1 (x : Fin 256) : k0_pay29 (F := Ideal) g s (k0_pay23 g z0 z1) (k0_pay24 g) z2 z3 (ix2 R x)
    = Softmax.weight (fun x => s (ix2 R x)) (four z0 z1 z2 z3 (R.val / 128)) x := by
  rw [← sink_sel (R.val / 128) (by omega) z0 z1 z2 z3 (Ideal.ofBits .f32 0x00000000#32), ← hg R]
  pointwise [k0_pay29, k0_pay27, k0_pay26, k0_pay25, k0_pay24, k0_pay23, Softmax.weight, Softmax.peak]

/-- The normalisation of the third key head. -/
theorem inv2 : k0_pay36 (F := Ideal) s (k0_pay31 g z0 z1 z2) (k0_pay32 g) z3 (ix2 R 0)
    = Ideal.div 1 (Softmax.total (fun x => s (ix2 R x)) (four z0 z1 z2 z3 (R.val / 128))) := by
  rw [← sink_sel (R.val / 128) (by omega) z0 z1 z2 z3 (Ideal.ofBits .f32 0x00000000#32), ← hg R]
  pointwise [k0_pay36, k0_pay35, k0_pay34, k0_pay33, k0_pay32, k0_pay31, Softmax.total, Softmax.weight, Softmax.peak]

/-- The weights of the third key head. -/
theorem weight2 (x : Fin 256) : k0_pay37 (F := Ideal) s (k0_pay31 g z0 z1 z2) (k0_pay32 g) z3 (ix2 R x)
    = Softmax.weight (fun x => s (ix2 R x)) (four z0 z1 z2 z3 (R.val / 128)) x := by
  rw [← sink_sel (R.val / 128) (by omega) z0 z1 z2 z3 (Ideal.ofBits .f32 0x00000000#32), ← hg R]
  pointwise [k0_pay37, k0_pay35, k0_pay34, k0_pay33, k0_pay32, k0_pay31, Softmax.weight, Softmax.peak]

/-- The normalisation of the fourth key head. -/
theorem inv3 (M : IVec S512x256 1) : k0_pay43 (F := Ideal) (k0_pay38 M s) (k0_pay39 g z0 z1 z2 z3) (k0_pay40 M g s z0 z1 z2 z3)
      (k0_pay41 M g s z0 z1 z2 z3) (ix2 R 0)
    = Ideal.div 1 (Softmax.total (fun x => k0_pay38 (F := Ideal) M s (ix2 R x)) (four z0 z1 z2 z3 (R.val / 128))) := by
  rw [← sink_sel (R.val / 128) (by omega) z0 z1 z2 z3 (Ideal.ofBits .f32 0x00000000#32), ← hg R]
  pointwise [k0_pay43, k0_pay42, k0_pay41, k0_pay40, k0_pay39, Softmax.total, Softmax.weight, Softmax.peak]

/-- The weights of the fourth key head. -/
theorem weight3 (M : IVec S512x256 1) (x : Fin 256) : k0_pay44 (F := Ideal) (k0_pay38 M s) (k0_pay41 M g s z0 z1 z2 z3) (ix2 R x)
    = Softmax.weight (fun x => k0_pay38 (F := Ideal) M s (ix2 R x)) (four z0 z1 z2 z3 (R.val / 128)) x := by
  rw [← sink_sel (R.val / 128) (by omega) z0 z1 z2 z3 (Ideal.ofBits .f32 0x00000000#32), ← hg R]
  pointwise [k0_pay44, k0_pay42, k0_pay41, k0_pay40, k0_pay39, Softmax.weight, Softmax.peak]

end

/-- The masked scores of the first key head. -/
theorem scores0 (i : grid0.Coords) (a b q0 q1 q2 q3 : FVec Ideal S128x64 .bf16) (R : Fin 512) (x : Fin 256) :
    k0_pay14 (F := Ideal) (k0_pay6 i) (k0_pay10 a b q0 q1 q2 q3) (ix2 R x)
      = scores (i 1).val (four q0 q1 q2 q3) a b R x := by
  have h : k0_pay14 (F := Ideal) (k0_pay6 i) (k0_pay10 a b q0 q1 q2 q3) (ix2 R x)
      = Scalar.select (k0_pay6 i (ix2 R x))
          (Softmax.score (fun k => four q0 q1 q2 q3 (R.val / 128) (ix2 (⟨R.val % 128, by omega⟩ : Fin 128) k)) (rows a b x)) ⊥ := by
    unfold Softmax.score rows
    pointwise [k0_pay14, k0_pay10]
    refine congrArg₂ (Scalar.select _) (congrArg (· * _) (Finset.sum_congr rfl fun k _ => congrArg (· * _) ?_))
      (IdealRules.named_const.ideal_named_scalar _ _ _ _ rfl)
    repeat' split
    · rw [show R.val / 128 = 0 by omega]
      exact congrArg q0 (congrArg (ix2 · k) (Fin.ext (by dsimp only; omega)))
    · rw [show R.val / 128 = 1 by omega]
      exact congrArg q1 (congrArg (ix2 · k) (Fin.ext (by dsimp only; omega)))
    · rw [show R.val / 128 = 2 by omega]
      exact congrArg q2 (congrArg (ix2 · k) (Fin.ext (by dsimp only; omega)))
    · rw [show R.val / 128 = 3 by omega]
      exact congrArg q3 (congrArg (ix2 · k) (Fin.ext (by dsimp only; omega)))
  rw [h, mask_at]
  unfold scores
  split <;> rfl

/-- The masked scores of the second key head. -/
theorem scores1 (i : grid0.Coords) (a b q0 q1 q2 q3 : FVec Ideal S128x64 .bf16) (R : Fin 512) (x : Fin 256) :
    k0_pay22 (F := Ideal) (k0_pay6 i) (k0_pay11 a b q0 q1 q2 q3) (ix2 R x)
      = scores (i 1).val (four q0 q1 q2 q3) a b R x := scores0 i a b q0 q1 q2 q3 R x

/-- The masked scores of the third key head. -/
theorem scores2 (i : grid0.Coords) (a b q0 q1 q2 q3 : FVec Ideal S128x64 .bf16) (R : Fin 512) (x : Fin 256) :
    k0_pay30 (F := Ideal) (k0_pay6 i) (k0_pay12 a b q0 q1 q2 q3) (ix2 R x)
      = scores (i 1).val (four q0 q1 q2 q3) a b R x := scores0 i a b q0 q1 q2 q3 R x

/-- The masked scores of the fourth key head. -/
theorem scores3 (i : grid0.Coords) (a b q0 q1 q2 q3 : FVec Ideal S128x64 .bf16) (R : Fin 512) (x : Fin 256) :
    k0_pay38 (F := Ideal) (k0_pay6 i) (k0_pay13 a b q0 q1 q2 q3) (ix2 R x)
      = scores (i 1).val (four q0 q1 q2 q3) a b R x := scores0 i a b q0 q1 q2 q3 R x

/-- The weighted sum of the values of two blocks, normalised after the sum. -/
theorem mix (l : FVec Ideal S512x1 .f32) (p : FVec Ideal S512x256 .bf16) (a b : FVec Ideal S128x64 .bf16) (R : Fin 512)
    (j : Fin 64) :
    k0_pay45 (F := Ideal) l p a b (ix2 R j) = (∑ x : Fin 256, p (ix2 R x) * rows a b x j) * l (ix2 R 0) := by
  rw [sum_two]
  unfold rows
  pointwise [k0_pay45]

/-- Row `R` of a tile of four heads: the attention over the two blocks of keys `a`, `b` and values `c`, `d`. -/
def tile (n : ℕ) (q : ℕ → FVec Ideal S128x64 .bf16) (a b c d : FVec Ideal S128x64 .bf16) (z : ℕ → EReal) (R : Fin 512)
    (j : Fin 64) : EReal :=
  Softmax.after (scores n q a b R) (z (R.val / 128)) (fun x => rows c d x j)

/-- A tile from its normalisation and its weights. -/
theorem tile_of (n : ℕ) (q : ℕ → FVec Ideal S128x64 .bf16) (a b c d : FVec Ideal S128x64 .bf16) (z : ℕ → EReal) (R : Fin 512)
    (j : Fin 64) (l : FVec Ideal S512x1 .f32) (p : FVec Ideal S512x256 .bf16) (s : Fin 256 → EReal)
    (hs : ∀ x, s x = scores n q a b R x)
    (hl : l (ix2 R 0) = Ideal.div 1 (Softmax.total s (z (R.val / 128))))
    (hp : ∀ x, p (ix2 R x) = Softmax.weight s (z (R.val / 128)) x) :
    k0_pay45 (F := Ideal) l p c d (ix2 R j) = tile n q a b c d z R j := by
  obtain rfl : s = scores n q a b R := funext hs
  rw [mix, hl]
  unfold tile Softmax.after
  exact congrArg (· * _) (Finset.sum_congr rfl fun x _ => by rw [hp])

section
variable (i : grid0.Coords) (a b c d q0 q1 q2 q3 : FVec Ideal S128x64 .bf16) (z0 z1 z2 z3 : EReal) (R : Fin 512) (j : Fin 64)

/-- The first key head's tile. -/
theorem tile0 : k0_pay45 (F := Ideal)
      (k0_pay20 heads (k0_pay14 (k0_pay6 i) (k0_pay10 a b q0 q1 q2 q3)) (k0_pay15 heads z0) (k0_pay16 heads) z1 z2 z3)
      (k0_pay21 heads (k0_pay14 (k0_pay6 i) (k0_pay10 a b q0 q1 q2 q3)) (k0_pay15 heads z0) (k0_pay16 heads) z1 z2 z3)
      c d (ix2 R j) = tile (i 1).val (four q0 q1 q2 q3) a b c d (four z0 z1 z2 z3) R j :=
  tile_of _ _ _ _ _ _ _ _ _ _ _ _ (scores0 i a b q0 q1 q2 q3 R) (inv0 _ heads_at _ _ _ _ _ R) (weight0 _ heads_at _ _ _ _ _ R)

/-- The second key head's tile. -/
theorem tile1 : k0_pay50 (F := Ideal)
      (k0_pay28 heads (k0_pay22 (k0_pay6 i) (k0_pay11 a b q0 q1 q2 q3)) (k0_pay23 heads z0 z1) (k0_pay24 heads) z2 z3)
      (k0_pay29 heads (k0_pay22 (k0_pay6 i) (k0_pay11 a b q0 q1 q2 q3)) (k0_pay23 heads z0 z1) (k0_pay24 heads) z2 z3)
      c d (ix2 R j) = tile (i 1).val (four q0 q1 q2 q3) a b c d (four z0 z1 z2 z3) R j :=
  tile_of _ _ _ _ _ _ _ _ _ _ _ _ (scores1 i a b q0 q1 q2 q3 R) (inv1 _ heads_at _ _ _ _ _ R) (weight1 _ heads_at _ _ _ _ _ R)

/-- The third key head's tile. -/
theorem tile2 : k0_pay55 (F := Ideal)
      (k0_pay36 (k0_pay30 (k0_pay6 i) (k0_pay12 a b q0 q1 q2 q3)) (k0_pay31 heads z0 z1 z2) (k0_pay32 heads) z3)
      (k0_pay37 (k0_pay30 (k0_pay6 i) (k0_pay12 a b q0 q1 q2 q3)) (k0_pay31 heads z0 z1 z2) (k0_pay32 heads) z3)
      c d (ix2 R j) = tile (i 1).val (four q0 q1 q2 q3) a b c d (four z0 z1 z2 z3) R j :=
  tile_of _ _ _ _ _ _ _ _ _ _ _ _ (scores2 i a b q0 q1 q2 q3 R) (inv2 _ heads_at _ _ _ _ _ R) (weight2 _ heads_at _ _ _ _ _ R)

/-- The fourth key head's tile. -/
theorem tile3 : k0_pay1 (F := Ideal)
      (k0_pay43 (k0_pay38 (k0_pay6 i) (k0_pay13 a b q0 q1 q2 q3)) (k0_pay39 heads z0 z1 z2 z3)
        (k0_pay40 (k0_pay6 i) heads (k0_pay13 a b q0 q1 q2 q3) z0 z1 z2 z3)
        (k0_pay41 (k0_pay6 i) heads (k0_pay13 a b q0 q1 q2 q3) z0 z1 z2 z3))
      (k0_pay44 (k0_pay38 (k0_pay6 i) (k0_pay13 a b q0 q1 q2 q3))
        (k0_pay41 (k0_pay6 i) heads (k0_pay13 a b q0 q1 q2 q3) z0 z1 z2 z3))
      c d (ix2 R j) = tile (i 1).val (four q0 q1 q2 q3) a b c d (four z0 z1 z2 z3) R j :=
  tile_of _ _ _ _ _ _ _ _ _ _ _ _ (scores3 i a b q0 q1 q2 q3 R) (inv3 _ heads_at _ _ _ _ _ R _) (weight3 _ heads_at _ _ _ _ _ R _)

end

end Cert.SwaIdeal.Value

end
-- ==== Proof.Swa.Reference.lean ====
/- The attention over a window of keys: what the reference computes at one row and column. -/
module

public import proofs.«01_k».proof.Proof.Gen.SwaRefIdeal.Read
public import proofs.«01_k».proof.Proof.Swa.Softmax
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.SwaRefIdeal.Value
open Cert.SwaRefIdeal Cert.SwaRefIdeal.Read

variable (q : FVec Ideal S65536x1024 .bf16) (k v : FVec Ideal S65536x256 .bf16) (z : FVec Ideal S1x16 .f32)

/-- Row `x` of the two blocks of keys (or values) a block of queries sees: the block before, which is a filler for the
    first block, and the block itself. -/
def band (b : Fin 32) (n : Fin 16) (kv : Fin 4) (x : Fin 256) (d : Fin 64) : EReal :=
  if h : x.val < 128 then
    if h' : 1 ≤ n.val then k (ix2 (⟨b.val * 2048 + (n.val - 1) * 128 + x.val, by omega⟩ : Fin 65536)
      (⟨kv.val * 64 + d.val, by omega⟩ : Fin 256))
    else FloatOps.sitofp (F := Ideal) .f32 0#32
  else k (ix2 (⟨b.val * 2048 + n.val * 128 + (x.val - 128), by omega⟩ : Fin 65536) (⟨kv.val * 64 + d.val, by omega⟩ : Fin 256))

/-- The keys of the two blocks. -/
theorem keys_at (b : Fin 32) (n : Fin 16) (kv : Fin 4) (x : Fin 256) (d : Fin 64) :
    val_main_v6 (F := Ideal) k (ix5 b n x kv d) = band k b n kv x d := by
  unfold band
  pointwise [val_main_v6, val_main_v5, val_main_v4, val_main_v3, val_main_v2, val_main_call0_v0, val_main_c]
  repeat' split
  all_goals first | rfl | (exfalso; omega)

/-- The values of the two blocks. -/
theorem values_at (b : Fin 32) (n : Fin 16) (kv : Fin 4) (x : Fin 256) (d : Fin 64) :
    val_main_v11 (F := Ideal) v (ix5 b n x kv d) = band v b n kv x d := keys_at v b n kv x d

/-- The words of the reference's test of a query and a key. -/
def seenWord (n r x : ℕ) : BitVec 1 :=
  IntOp.andi (IntOp.andi (IntOp.cmpi .sgt (BitVec.ofNat 32 x) (BitVec.ofNat 32 r))
      (IntOp.cmpi .sle (BitVec.ofNat 32 x) (IntOp.addi (BitVec.ofNat 32 r) 128#32)))
    (IntOp.cmpi .sge (IntOp.addi (IntOp.subi (IntOp.muli (BitVec.ofNat 32 n) 128#32) 128#32) (BitVec.ofNat 32 x)) 0#32)

/-- The key is not before the sequence: the first block of keys exists. -/
theorem exists_eq (n : Fin 16) (x : Fin 256) :
    IntOp.cmpi .sge (IntOp.addi (IntOp.subi (IntOp.muli (BitVec.ofNat 32 n.val) 128#32) 128#32) (BitVec.ofNat 32 x.val)) 0#32
      = BitVec.ofBool (decide (128 ≤ x.val ∨ 0 < n.val)) :=
  (by decide +kernel : ∀ (n : Fin 16) (x : Fin 256),
    IntOp.cmpi .sge (IntOp.addi (IntOp.subi (IntOp.muli (BitVec.ofNat 32 n.val) 128#32) 128#32) (BitVec.ofNat 32 x.val)) 0#32
      = BitVec.ofBool (decide (128 ≤ x.val ∨ 0 < n.val))) n x

/-- The reference's test of a query and a key is the window. -/
theorem seenWord_eq (n : Fin 16) (r : Fin 128) (x : Fin 256) :
    seenWord n.val r.val x.val = if Softmax.seen n.val r.val x.val then 1#1 else 0#1 := by
  unfold seenWord
  rw [exists_eq, WordCmp.addi_ofNat, WordCmp.cmpi_sgt_ofNat (by omega) (by omega),
    WordCmp.cmpi_sle_ofNat (by omega) (by omega), WordCmp.andi_ofBool, WordCmp.andi_ofBool]
  by_cases h1 : r.val < x.val <;> by_cases h2 : x.val ≤ r.val + 128 <;> by_cases h3 : 128 ≤ x.val <;>
    by_cases h4 : 0 < n.val <;> simp [Softmax.seen, h1, h2, h3, h4]

/-- The reference's mask. -/
theorem mask_at (n : Fin 16) (r : Fin 128) (x : Fin 256) :
    val_main_v40 (F := Ideal) (ix3 n r x) = if Softmax.seen n.val r.val x.val then 1#1 else 0#1 := by
  rw [← seenWord_eq]
  unfold seenWord
  pointwise [val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_c_1, val_main_c_2,
    val_main_c_3, val_main_c_4]

/-- The scores of one query of one head, −∞ at the keys that are not seen. -/
def scores (b : Fin 32) (n : Fin 16) (r : Fin 128) (kv g : Fin 4) (x : Fin 256) : EReal :=
  if Softmax.seen n.val r.val x.val then
    Softmax.score (fun d => q (ix2 (⟨b.val * 2048 + n.val * 128 + r.val, by omega⟩ : Fin 65536)
      (⟨kv.val * 256 + g.val * 64 + d.val, by omega⟩ : Fin 1024))) (band k b n kv x)
  else ⊥

/-- The reference's masked scores. -/
theorem scores_at (b : Fin 32) (n : Fin 16) (r : Fin 128) (kv g : Fin 4) (x : Fin 256) :
    val_main_v49 (F := Ideal) q k (ix6 b n kv g r x) = scores q k b n r kv g x := by
  have h : val_main_v49 (F := Ideal) q k (ix6 b n kv g r x)
      = Scalar.select (val_main_v40 (F := Ideal) (ix3 n r x))
          ((∑ d : Fin 64, val_main_v6 (F := Ideal) k (ix5 b n x kv d) * val_main_v1 (F := Ideal) q (ix6 b n r kv g d))
            * Ideal.ofBits .f32 0x3E000000#32) (Ideal.ofBits .f32 0xFF800000#32) := by
    pointwise [val_main_v49, val_main_call2_v2, val_main_call2_v1, val_main_call2_v0, val_main_v48, val_main_v47,
      val_main_v46, val_main_v45, val_main_v44, val_main_cst, val_main_cst_5]
    rfl
  rw [h, mask_at, Softmax.neg_inf]
  unfold scores
  split
  · refine congrArg (· * _) (Finset.sum_congr rfl fun d _ => ?_)
    rw [keys_at, mul_comm]
    refine congrArg (· * _) ?_
    pointwise [val_main_v1, val_main_v0]
  · rfl

/-- The sinks. -/
theorem sink_at (kv g : Fin 4) :
    val_main_v43 (F := Ideal) z (ix6 0 0 kv g 0 0) = z (ix2 0 (⟨kv.val * 4 + g.val, by omega⟩ : Fin 16)) := by
  pointwise [val_main_v43, val_main_v42, val_main_v41]

/-- The largest of a query's entries, over any array of scores. -/
theorem max_read (y : FVec Ideal S32x16x4x4x128x256 .f32) (b : Fin 32) (n : Fin 16) (r : Fin 128) (kv g : Fin 4) :
    Host.reduce (FloatOps.maximumf (F := Ideal) (φ := .f32)) y (val_main_cst_6 (F := Ideal))
        Gen.reducesTo_S32x16x4x4x128x256_S32x16x4x4x128_d5 Gen.h_S_ (ix5 b n kv g r)
      = Finset.univ.fold max (Ideal.ofBits .f32 0xFF800000#32) (fun x => y (ix6 b n kv g r x)) := by
  rw [Host.reduce_eq_fold_single _ y _ Gen.reducesTo_S32x16x4x4x128x256_S32x16x4x4x128_d5 (by decide)]
  refine congrArg (fun f => Finset.univ.fold max (Ideal.ofBits .f32 0xFF800000#32) f)
    (funext fun x => congrArg y (funext fun a => Fin.ext ?_))
  match a with
  | 0 => rfl
  | 1 => rfl
  | 2 => rfl
  | 3 => rfl
  | 4 => rfl
  | 5 => rfl

/-- A weight before the division, over any arrays of scores, of largest scores and of sinks. -/
theorem weight_read (s : FVec Ideal S32x16x4x4x128x256 .f32) (p : FVec Ideal S32x16x4x4x128 .f32)
    (w : FVec Ideal S1x1x4x4x1x1 .f32) (b : Fin 32) (n : Fin 16) (r : Fin 128) (kv g : Fin 4) (x : Fin 256) :
    Host.exp (subf s (broadcastInDim S32x16x4x4x128x256 ![0, 1, 2, 3, 4, 5]
      Gen.bcast_S32x16x4x4x128x1_S32x16x4x4x128x256_0_1_2_3_4_5
        (maximumf (broadcastInDim S32x16x4x4x128x1 ![0, 1, 2, 3, 4] Gen.bcast_S32x16x4x4x128_S32x16x4x4x128x1_0_1_2_3_4 p)
          (broadcastInDim S32x16x4x4x128x1 ![0, 1, 2, 3, 4, 5] Gen.bcast_S1x1x4x4x1x1_S32x16x4x4x128x1_0_1_2_3_4_5 w))))
      (ix6 b n kv g r x)
    = Ideal.exp (s (ix6 b n kv g r x) - max (p (ix5 b n kv g r)) (w (ix6 0 0 kv g 0 0))) := by
  pointwise

/-- A weight after the division, over any arrays of weights, of their sums, of largest scores and of sinks. -/
theorem normal_read (e : FVec Ideal S32x16x4x4x128x256 .f32) (s p : FVec Ideal S32x16x4x4x128 .f32)
    (w : FVec Ideal S1x1x4x4x1x1 .f32) (b : Fin 32) (n : Fin 16) (r : Fin 128) (kv g : Fin 4) (x : Fin 256) :
    Host.divf e (broadcastInDim S32x16x4x4x128x256 ![0, 1, 2, 3, 4, 5]
      Gen.bcast_S32x16x4x4x128x1_S32x16x4x4x128x256_0_1_2_3_4_5
        (addf (broadcastInDim S32x16x4x4x128x1 ![0, 1, 2, 3, 4] Gen.bcast_S32x16x4x4x128_S32x16x4x4x128x1_0_1_2_3_4 s)
          (Host.exp (subf
            (broadcastInDim S32x16x4x4x128x1 ![0, 1, 2, 3, 4, 5] Gen.bcast_S1x1x4x4x1x1_S32x16x4x4x128x1_0_1_2_3_4_5 w)
            (maximumf (broadcastInDim S32x16x4x4x128x1 ![0, 1, 2, 3, 4] Gen.bcast_S32x16x4x4x128_S32x16x4x4x128x1_0_1_2_3_4 p)
              (broadcastInDim S32x16x4x4x128x1 ![0, 1, 2, 3, 4, 5] Gen.bcast_S1x1x4x4x1x1_S32x16x4x4x128x1_0_1_2_3_4_5 w))))))
      (ix6 b n kv g r x)
    = Ideal.div (e (ix6 b n kv g r x)) (s (ix5 b n kv g r)
        + Ideal.exp (w (ix6 0 0 kv g 0 0) - max (p (ix5 b n kv g r)) (w (ix6 0 0 kv g 0 0)))) := by
  pointwise

/-- The largest masked score of a query. -/
theorem largest_at (b : Fin 32) (n : Fin 16) (r : Fin 128) (kv g : Fin 4) :
    val_main_v50 (F := Ideal) q k (ix5 b n kv g r)
      = Finset.univ.fold max (Ideal.ofBits .f32 0xFF800000#32) (scores q k b n r kv g) := by
  have h : (fun x => val_main_v49 (F := Ideal) q k (ix6 b n kv g r x)) = scores q k b n r kv g :=
    funext (scores_at q k b n r kv g)
  rw [← h]
  exact max_read (val_main_v49 (F := Ideal) q k) b n r kv g

/-- A key's weight before the division. -/
theorem weight_at (b : Fin 32) (n : Fin 16) (r : Fin 128) (kv g : Fin 4) (x : Fin 256) :
    val_main_v56 (F := Ideal) q k z (ix6 b n kv g r x)
      = Softmax.weight (scores q k b n r kv g) (z (ix2 0 (⟨kv.val * 4 + g.val, by omega⟩ : Fin 16))) x := by
  unfold Softmax.weight Softmax.peak
  rw [← sink_at z kv g, ← largest_at, ← scores_at]
  exact weight_read (val_main_v49 (F := Ideal) q k) (val_main_v50 (F := Ideal) q k) (val_main_v43 (F := Ideal) z) b n r kv g x

/-- The sum of the weights. -/
theorem sum_at (b : Fin 32) (n : Fin 16) (r : Fin 128) (kv g : Fin 4) :
    val_main_v57 (F := Ideal) q k z (ix5 b n kv g r)
      = ∑ x, Softmax.weight (scores q k b n r kv g) (z (ix2 0 (⟨kv.val * 4 + g.val, by omega⟩ : Fin 16))) x := by
  have h : (fun x => val_main_v56 (F := Ideal) q k z (ix6 b n kv g r x))
      = Softmax.weight (scores q k b n r kv g) (z (ix2 0 (⟨kv.val * 4 + g.val, by omega⟩ : Fin 16))) :=
    funext (weight_at q k z b n r kv g)
  rw [← h, val_main_v57_apply]
  generalize val_main_v56 (F := Ideal) q k z = y
  refine (congrArg₂ (· + ·) (Ideal.ofBits_zero_f32 : Ideal.ofBits .f32 0x00000000#32 = 0)
    (Finset.sum_congr rfl fun x _ => congrArg y (funext fun a => Fin.ext ?_))).trans (zero_add _)
  match a with
  | 0 => rfl
  | 1 => rfl
  | 2 => rfl
  | 3 => rfl
  | 4 => rfl
  | 5 => rfl

/-- The normalised weights. -/
theorem weights_at (b : Fin 32) (n : Fin 16) (r : Fin 128) (kv g : Fin 4) (x : Fin 256) :
    val_main_v64 (F := Ideal) q k z (ix6 b n kv g r x)
      = Ideal.div (Softmax.weight (scores q k b n r kv g) (z (ix2 0 (⟨kv.val * 4 + g.val, by omega⟩ : Fin 16))) x)
          (Softmax.total (scores q k b n r kv g) (z (ix2 0 (⟨kv.val * 4 + g.val, by omega⟩ : Fin 16)))) := by
  unfold Softmax.total Softmax.peak
  rw [← sum_at, ← weight_at, ← largest_at, ← sink_at z kv g]
  exact normal_read (val_main_v56 (F := Ideal) q k z) (val_main_v57 (F := Ideal) q k z) (val_main_v50 (F := Ideal) q k)
    (val_main_v43 (F := Ideal) z) b n r kv g x

/-- The reference's result at one query of one head. -/
theorem ref_at (b : Fin 32) (n : Fin 16) (r : Fin 128) (kv g : Fin 4) (d : Fin 64) :
    val_main_v66 (F := Ideal) q k v z (ix6 b n r kv g d)
      = Softmax.before (scores q k b n r kv g) (z (ix2 0 (⟨kv.val * 4 + g.val, by omega⟩ : Fin 16)))
          (fun x => band v b n kv x d) := by
  have h : val_main_v66 (F := Ideal) q k v z (ix6 b n r kv g d)
      = ∑ x : Fin 256, val_main_v11 (F := Ideal) v (ix5 b n x kv d) * val_main_v64 (F := Ideal) q k z (ix6 b n kv g r x) := by
    pointwise [val_main_v66, val_main_v65]
  rw [h]
  exact Finset.sum_congr rfl fun x _ => by rw [values_at, weights_at, mul_comm]

/-- The result's rows and columns, apart. -/
theorem result_at (N : Fin 65536) (j : Fin 1024) :
    val_main_v68 (F := Ideal) q k v z (ix2 N j)
      = val_main_v66 (F := Ideal) q k v z (ix6 (⟨N.val / 2048, by omega⟩ : Fin 32) (⟨N.val / 128 % 16, by omega⟩ : Fin 16)
          (⟨N.val % 128, by omega⟩ : Fin 128) (⟨j.val / 256, by omega⟩ : Fin 4) (⟨j.val / 64 % 4, by omega⟩ : Fin 4)
          (⟨j.val % 64, by omega⟩ : Fin 64)) := by
  pointwise [val_main_v68, val_main_v67]

end Cert.SwaRefIdeal.Value

end
-- ==== Proof.Swa.Entry.lean ====
/- The attention over a window of keys: the kernel's blocks in the arrays, and that the result array is the reference's. -/
module

public import proofs.«01_k».proof.Pre_swa_finite
public import proofs.«01_k».proof.Proof.Gen.Pre_swa_finite
public import proofs.«01_k».proof.Proof.Finite
public import proofs.«01_k».proof.Proof.Swa.Kernel
public import proofs.«01_k».proof.Proof.Swa.Reference
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaIdeal.Value
open Cert.SwaIdeal Cert.SwaIdeal.Gen
open Cert.Finite (Real')

variable (m : (ℓ : Loc nD τ sig) → Buf (Elt Ideal) ℓ)

/-- The attention as the reference computes it. -/
abbrev REF (q : FVec Ideal S65536x1024 .bf16) (k v : FVec Ideal S65536x256 .bf16) (z : FVec Ideal S1x16 .f32) :
    FVec Ideal S65536x1024 .bf16 := Cert.SwaRefIdeal.Read.val_main_v68 (F := Ideal) q k v z

/-- Where each window's block lies at grid point `t`: block `t` of the queries, the keys and the values, and the keys' and
    values' block before it within the sequence (the first block itself where there is none); the sinks are whole. -/
theorem idx : ∀ t : Fin cfg0.N, win0_0.index t = ![0] ∧ win0_1.index t = ![t.val, 0] ∧
    win0_2.index t = ![t.val / 16 * 16 + (t.val % 16 - 1), 0] ∧ win0_3.index t = ![t.val, 0] ∧
    win0_4.index t = ![t.val / 16 * 16 + (t.val % 16 - 1), 0] ∧ win0_5.index t = ![t.val, 0] ∧ win0_6.index t = ![t.val, 0] :=
  (by decide +kernel : ∀ t : Fin grid0.N, _)

/-- The second grid coordinate is the number of the block within its sequence. -/
theorem coord : ∀ t : Fin cfg0.N, ((grid0.coords t) 1).val = t.val % 16 :=
  (by decide +kernel : ∀ t : Fin grid0.N, ((grid0.coords t) 1).val = t.val % 16)

/-- The sinks as the kernel reads them. -/
theorem entry_z (c : Dev nD) (h : Fin 16) :
    V m c main_v0 (ix1 h) = m ((c : Thread nD τ).loc main_arg3) (ix2 (0 : Fin 1) h) := by
  entry_read
  pointwise

/-- The queries as the kernel reads them. -/
theorem entry_q (c : Dev nD) : V m c main_arg0 = m ((c : Thread nD τ).loc main_arg0) := by
  entry_read
  rfl

/-- The keys as the kernel reads them. -/
theorem entry_k (c : Dev nD) : V m c main_arg1 = m ((c : Thread nD τ).loc main_arg1) := by
  entry_read
  rfl

/-- The values as the kernel reads them. -/
theorem entry_v (c : Dev nD) : V m c main_arg2 = m ((c : Thread nD τ).loc main_arg2) := by
  entry_read
  rfl

/-- The block of the sinks is the sinks. -/
theorem blk_z (c : Dev nD) (t : Fin cfg0.N) (h : Fin 16) : iblk m c 0 t (ix1 h) = V m c main_v0 (ix1 h) := by
  unfold iblk
  generalize V m c main_v0 = X
  blk_ext [idx t]

/-- Row `r` of block `t` in the whole matrix. -/
abbrev row (t : Fin cfg0.N) (ht : t.val < 512) (r : Fin 128) : Fin 65536 := ⟨t.val * 128 + r.val, by omega⟩

/-- Row `r` of the block before `t` in the whole matrix. -/
abbrev rowBefore (t : Fin cfg0.N) (ht : t.val < 512) (r : Fin 128) : Fin 65536 :=
  ⟨(t.val / 16 * 16 + (t.val % 16 - 1)) * 128 + r.val, by omega⟩

/-- The block of queries at grid point `t`. -/
theorem blk_q (c : Dev nD) (t : Fin cfg0.N) (ht : t.val < 512) (r : Fin 128) (k : Fin 1024) :
    iblk m c 1 t (ix2 r k) = V m c main_arg0 (ix2 (row t ht r) k) := by
  unfold iblk
  generalize V m c main_arg0 = X
  blk_ext [idx t]

/-- The block of keys before the queries'. -/
theorem blk_kp (c : Dev nD) (t : Fin cfg0.N) (ht : t.val < 512) (r : Fin 128) (k : Fin 256) :
    iblk m c 2 t (ix2 r k) = V m c main_arg1 (ix2 (rowBefore t ht r) k) := by
  unfold iblk
  generalize V m c main_arg1 = X
  blk_ext [idx t]

/-- The queries' block of keys. -/
theorem blk_kc (c : Dev nD) (t : Fin cfg0.N) (ht : t.val < 512) (r : Fin 128) (k : Fin 256) :
    iblk m c 3 t (ix2 r k) = V m c main_arg1 (ix2 (row t ht r) k) := by
  unfold iblk
  generalize V m c main_arg1 = X
  blk_ext [idx t]

/-- The block of values before the queries'. -/
theorem blk_vp (c : Dev nD) (t : Fin cfg0.N) (ht : t.val < 512) (r : Fin 128) (k : Fin 256) :
    iblk m c 4 t (ix2 r k) = V m c main_arg2 (ix2 (rowBefore t ht r) k) := by
  unfold iblk
  generalize V m c main_arg2 = X
  blk_ext [idx t]

/-- The queries' block of values. -/
theorem blk_vc (c : Dev nD) (t : Fin cfg0.N) (ht : t.val < 512) (r : Fin 128) (k : Fin 256) :
    iblk m c 5 t (ix2 r k) = V m c main_arg2 (ix2 (row t ht r) k) := by
  unfold iblk
  generalize V m c main_arg2 = X
  blk_ext [idx t]

/-- Where the result's block of grid point `t` lies in the result. -/
theorem emb_out (t : Fin cfg0.N) (ht : t.val < 512) (r : Fin 128) (j : Fin 1024) :
    ((cfg0.win 6).blk t).view.emb (ix2 r j) = ix2 (row t ht r) j := by
  blk_ext [idx t]

/-- 64 columns of a block of queries. -/
theorem ld_q (X : (⟨S128x1024, .bf16⟩ : BufTy).Contents (Elt Ideal)) (o : ℕ)
    (h : ∀ a, (![0, o] : Fin 2 → ℕ) a + (![128, 64] : Fin 2 → ℕ) a ≤ S128x1024.size a)
    (ho : o + 64 ≤ 1024) (r : Fin 128) (k : Fin 64) :
    View.ld X (Rect.unit ![0, o] ![128, 64] h) (ix2 r k) = X (ix2 r (⟨o + k.val, by omega⟩ : Fin 1024)) := by
  refine congrArg X (funext fun a => Fin.ext ?_)
  match a with
  | 0 => exact (by omega : 0 + 1 * r.val = r.val)
  | 1 => exact (by omega : o + 1 * k.val = o + k.val)

/-- 64 columns of a block of keys or values. -/
theorem ld_k (X : (⟨S128x256, .bf16⟩ : BufTy).Contents (Elt Ideal)) (o : ℕ)
    (h : ∀ a, (![0, o] : Fin 2 → ℕ) a + (![128, 64] : Fin 2 → ℕ) a ≤ S128x256.size a)
    (ho : o + 64 ≤ 256) (r : Fin 128) (k : Fin 64) :
    View.ld X (Rect.unit ![0, o] ![128, 64] h) (ix2 r k) = X (ix2 r (⟨o + k.val, by omega⟩ : Fin 256)) := by
  refine congrArg X (funext fun a => Fin.ext ?_)
  match a with
  | 0 => exact (by omega : 0 + 1 * r.val = r.val)
  | 1 => exact (by omega : o + 1 * k.val = o + k.val)

/-- The queries of the four heads of key head `kv`, in a block of queries. -/
theorem four_q (X : (⟨S128x1024, .bf16⟩ : BufTy).Contents (Elt Ideal)) (kv o0 o1 o2 o3 : ℕ) (hkv : kv < 4)
    (e0 : o0 = kv * 256) (e1 : o1 = kv * 256 + 64) (e2 : o2 = kv * 256 + 128) (e3 : o3 = kv * 256 + 192)
    (h0 : ∀ a, (![0, o0] : Fin 2 → ℕ) a + (![128, 64] : Fin 2 → ℕ) a ≤ S128x1024.size a)
    (h1 : ∀ a, (![0, o1] : Fin 2 → ℕ) a + (![128, 64] : Fin 2 → ℕ) a ≤ S128x1024.size a)
    (h2 : ∀ a, (![0, o2] : Fin 2 → ℕ) a + (![128, 64] : Fin 2 → ℕ) a ≤ S128x1024.size a)
    (h3 : ∀ a, (![0, o3] : Fin 2 → ℕ) a + (![128, 64] : Fin 2 → ℕ) a ≤ S128x1024.size a)
    (g : ℕ) (hg : g < 4) (r : Fin 128) (l : Fin 64) :
    four (View.ld X (Rect.unit ![0, o0] ![128, 64] h0)) (View.ld X (Rect.unit ![0, o1] ![128, 64] h1))
        (View.ld X (Rect.unit ![0, o2] ![128, 64] h2)) (View.ld X (Rect.unit ![0, o3] ![128, 64] h3)) g (ix2 r l)
      = X (ix2 r (⟨kv * 256 + g * 64 + l.val, by omega⟩ : Fin 1024)) := by
  subst e0 e1 e2 e3
  interval_cases g
  · exact (ld_q X _ h0 (by omega) r l).trans (congrArg X (congrArg (ix2 r) (Fin.ext (by dsimp only; omega))))
  · exact (ld_q X _ h1 (by omega) r l).trans (congrArg X (congrArg (ix2 r) (Fin.ext (by dsimp only))))
  · exact (ld_q X _ h2 (by omega) r l).trans (congrArg X (congrArg (ix2 r) (Fin.ext (by dsimp only))))
  · exact (ld_q X _ h3 (by omega) r l).trans (congrArg X (congrArg (ix2 r) (Fin.ext (by dsimp only))))

/-- The keys (or values) of key head `kv`, in a block of them. -/
theorem head_k (X : (⟨S128x256, .bf16⟩ : BufTy).Contents (Elt Ideal)) (kv o : ℕ) (hkv : kv < 4) (e : o = kv * 64)
    (h : ∀ a, (![0, o] : Fin 2 → ℕ) a + (![128, 64] : Fin 2 → ℕ) a ≤ S128x256.size a) (r : Fin 128) (l : Fin 64) :
    View.ld X (Rect.unit ![0, o] ![128, 64] h) (ix2 r l) = X (ix2 r (⟨kv * 64 + l.val, by omega⟩ : Fin 256)) := by
  subst e
  exact ld_k X _ h (by omega) r l

/-- The sinks of the four heads of key head `kv`. -/
theorem four_z (X : (⟨S16, .f32⟩ : BufTy).Contents (Elt Ideal)) (kv : ℕ) (hkv : kv < 4) (a0 a1 a2 a3 : Fin 16)
    (e0 : a0.val = kv * 4) (e1 : a1.val = kv * 4 + 1) (e2 : a2.val = kv * 4 + 2) (e3 : a3.val = kv * 4 + 3) (g : ℕ) (hg : g < 4) :
    four (X (ix1 a0)) (X (ix1 a1)) (X (ix1 a2)) (X (ix1 a3)) g = X (ix1 (⟨kv * 4 + g, by omega⟩ : Fin 16)) := by
  interval_cases g
  · exact congrArg X (congrArg ix1 (Fin.ext e0))
  · exact congrArg X (congrArg ix1 (Fin.ext e1))
  · exact congrArg X (congrArg ix1 (Fin.ext e2))
  · exact congrArg X (congrArg ix1 (Fin.ext e3))

end Cert.SwaIdeal.Value

end
-- ==== Proof.Swa.Value.lean ====
/- The attention over a window of keys: what is stored at each grid point is the reference's result there. -/
module

public import proofs.«01_k».proof.Proof.Swa.Entry
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaIdeal.Value
open Cert.SwaIdeal Cert.SwaIdeal.Gen
open Cert.Finite (Real')
open Cert.SwaRefIdeal.Value (band)

/-- The reference's result at one query of one head, by the number of the block the query is in. -/
theorem ref_place (q : FVec Ideal S65536x1024 .bf16) (k v : FVec Ideal S65536x256 .bf16) (z : FVec Ideal S1x16 .f32)
    (t kv g : ℕ) (ht : t < 512) (hkv : kv < 4) (hg : g < 4) (r : Fin 128) (d : Fin 64) :
    REF q k v z (ix2 (⟨t * 128 + r.val, by omega⟩ : Fin 65536) (⟨kv * 256 + g * 64 + d.val, by omega⟩ : Fin 1024))
      = Softmax.before
          (Cert.SwaRefIdeal.Value.scores q k (⟨t / 16, by omega⟩ : Fin 32) (⟨t % 16, by omega⟩ : Fin 16) r ⟨kv, hkv⟩ ⟨g, hg⟩)
          (z (ix2 0 (⟨kv * 4 + g, by omega⟩ : Fin 16)))
          (fun x => band v (⟨t / 16, by omega⟩ : Fin 32) (⟨t % 16, by omega⟩ : Fin 16) ⟨kv, hkv⟩ x d) := by
  rw [← Cert.SwaRefIdeal.Value.ref_at q k v z ⟨t / 16, by omega⟩ ⟨t % 16, by omega⟩ r ⟨kv, hkv⟩ ⟨g, hg⟩ d]
  refine (Cert.SwaRefIdeal.Value.result_at q k v z _ _).trans ?_
  congr 1
  refine congr (congr (congr (congr (congr (congrArg ix6 ?_) ?_) ?_) ?_) ?_) ?_ <;> refine Fin.ext ?_ <;> dsimp only <;> omega

/-- An entry of the two blocks of keys (or values) is real where the key is seen. -/
theorem band_real (k : FVec Ideal S65536x256 .bf16) (hk : ∀ i, Real' (k i)) (b : Fin 32) (n : Fin 16) (kv : Fin 4) (r : ℕ)
    (x : Fin 256) (hs : Softmax.seen n.val r x.val) (d : Fin 64) : Real' (band k b n kv x d) := by
  unfold band
  split
  · rw [dif_pos (by omega)]
    exact hk _
  · exact hk _

/-- The kernel's two blocks of keys (or values) are the reference's where the key is seen. -/
theorem rows_eq (K : FVec Ideal S65536x256 .bf16) (t kv : ℕ) (ht : t < 512) (hkv : kv < 4)
    (a b : FVec Ideal S128x64 .bf16)
    (ha : ∀ (x : Fin 128) (d : Fin 64), a (ix2 x d) = K (ix2 (⟨(t / 16 * 16 + (t % 16 - 1)) * 128 + x.val, by omega⟩ : Fin 65536)
      (⟨kv * 64 + d.val, by omega⟩ : Fin 256)))
    (hb : ∀ (x : Fin 128) (d : Fin 64), b (ix2 x d) = K (ix2 (⟨t * 128 + x.val, by omega⟩ : Fin 65536)
      (⟨kv * 64 + d.val, by omega⟩ : Fin 256)))
    (r : ℕ) (x : Fin 256) (hs : Softmax.seen (t % 16) r x.val) (d : Fin 64) :
    rows a b x d = band K (⟨t / 16, by omega⟩ : Fin 32) (⟨t % 16, by omega⟩ : Fin 16) ⟨kv, hkv⟩ x d := by
  unfold rows band
  split
  · rw [dif_pos (by dsimp only; omega), ha]
    exact congrArg K (congrArg (ix2 · _) (Fin.ext (by dsimp only; omega)))
  · rw [hb]
    exact congrArg K (congrArg (ix2 · _) (Fin.ext (by dsimp only; omega)))

/-- A tile of the kernel is the reference's result, where the queries, keys and sinks are real. -/
theorem tile_eq (Q : FVec Ideal S65536x1024 .bf16) (K W : FVec Ideal S65536x256 .bf16) (Z : FVec Ideal S1x16 .f32)
    (hQ : ∀ i, Real' (Q i)) (hK : ∀ i, Real' (K i)) (hZ : ∀ i, Real' (Z i))
    (n t kv : ℕ) (ht : t < 512) (hn : n = t % 16) (hkv : kv < 4)
    (q : ℕ → FVec Ideal S128x64 .bf16) (a b c d : FVec Ideal S128x64 .bf16) (z : ℕ → EReal)
    (hq : ∀ g (hg : g < 4) (r : Fin 128) (l : Fin 64), q g (ix2 r l) = Q (ix2 (⟨t * 128 + r.val, by omega⟩ : Fin 65536)
      (⟨kv * 256 + g * 64 + l.val, by omega⟩ : Fin 1024)))
    (ha : ∀ (x : Fin 128) (l : Fin 64), a (ix2 x l) = K (ix2 (⟨(t / 16 * 16 + (t % 16 - 1)) * 128 + x.val, by omega⟩ : Fin 65536)
      (⟨kv * 64 + l.val, by omega⟩ : Fin 256)))
    (hb : ∀ (x : Fin 128) (l : Fin 64), b (ix2 x l) = K (ix2 (⟨t * 128 + x.val, by omega⟩ : Fin 65536)
      (⟨kv * 64 + l.val, by omega⟩ : Fin 256)))
    (hc : ∀ (x : Fin 128) (l : Fin 64), c (ix2 x l) = W (ix2 (⟨(t / 16 * 16 + (t % 16 - 1)) * 128 + x.val, by omega⟩ : Fin 65536)
      (⟨kv * 64 + l.val, by omega⟩ : Fin 256)))
    (hd : ∀ (x : Fin 128) (l : Fin 64), d (ix2 x l) = W (ix2 (⟨t * 128 + x.val, by omega⟩ : Fin 65536)
      (⟨kv * 64 + l.val, by omega⟩ : Fin 256)))
    (hz : ∀ g (hg : g < 4), z g = Z (ix2 0 (⟨kv * 4 + g, by omega⟩ : Fin 16)))
    (R : Fin 512) (j : Fin 64) :
    tile n q a b c d z R j = REF Q K W Z (ix2 (⟨t * 128 + R.val % 128, by omega⟩ : Fin 65536)
      (⟨kv * 256 + R.val / 128 * 64 + j.val, by omega⟩ : Fin 1024)) := by
  subst hn
  have hg : R.val / 128 < 4 := by omega
  refine Eq.trans ?_ (ref_place Q K W Z t kv (R.val / 128) ht hkv hg (⟨R.val % 128, by omega⟩ : Fin 128) j).symm
  have hs : scores (t % 16) q a b R = Cert.SwaRefIdeal.Value.scores Q K (⟨t / 16, by omega⟩ : Fin 32)
      (⟨t % 16, by omega⟩ : Fin 16) (⟨R.val % 128, by omega⟩ : Fin 128) ⟨kv, hkv⟩ ⟨R.val / 128, hg⟩ := by
    funext x
    unfold scores Cert.SwaRefIdeal.Value.scores
    by_cases h : Softmax.seen (t % 16) (R.val % 128) x.val
    · rw [if_pos h, if_pos h]
      refine congr (congrArg Softmax.score (funext fun l => (hq _ hg _ l).trans (congrArg Q (congrArg (ix2 · _) (Fin.ext ?_)))))
        (funext fun l => rows_eq K t kv ht hkv a b ha hb _ x h l)
      dsimp only
      omega
    · rw [if_neg h, if_neg h]
  unfold tile
  rw [hs, hz _ hg]
  obtain ⟨w, hw⟩ := hZ (ix2 0 (⟨kv * 4 + R.val / 128, by omega⟩ : Fin 16))
  rw [hw]
  refine Softmax.after_eq_before _ w _ _ (fun x => ?_) (fun x hx => ?_)
  · unfold Cert.SwaRefIdeal.Value.scores
    split
    · rename_i h
      obtain ⟨y, hy⟩ := Softmax.score_real _ _ (fun l => hQ _) (fun l => band_real K hK _ _ _ _ x h l)
      rw [hy]
      exact EReal.coe_ne_top y
    · exact bot_ne_top
  · refine rows_eq W t kv ht hkv c d hc hd (R.val % 128) x ?_ j
    by_contra h
    exact hx (if_neg h)

variable (m : (ℓ : Loc nD τ sig) → Buf (Elt Ideal) ℓ)

/-- A tile of the blocks of grid point `t` is the reference's result where the block is placed. -/
theorem stored (c : Dev nD) (hQ : ∀ i : S65536x1024.Idx, Real' (m ((c : Thread nD τ).loc main_arg0) i))
    (hK : ∀ i : S65536x256.Idx, Real' (m ((c : Thread nD τ).loc main_arg1) i))
    (hZ : ∀ i : S1x16.Idx, Real' (m ((c : Thread nD τ).loc main_arg3) i)) (t : Fin cfg0.N) (kv : ℕ) (hkv : kv < 4)
    (q : ℕ → FVec Ideal S128x64 .bf16) (a b e d : FVec Ideal S128x64 .bf16) (z : ℕ → EReal)
    (hq : ∀ g (hg : g < 4) (r : Fin 128) (l : Fin 64),
      q g (ix2 r l) = iblk m c 1 t (ix2 r (⟨kv * 256 + g * 64 + l.val, by omega⟩ : Fin 1024)))
    (ha : ∀ (x : Fin 128) (l : Fin 64), a (ix2 x l) = iblk m c 2 t (ix2 x (⟨kv * 64 + l.val, by omega⟩ : Fin 256)))
    (hb : ∀ (x : Fin 128) (l : Fin 64), b (ix2 x l) = iblk m c 3 t (ix2 x (⟨kv * 64 + l.val, by omega⟩ : Fin 256)))
    (he : ∀ (x : Fin 128) (l : Fin 64), e (ix2 x l) = iblk m c 4 t (ix2 x (⟨kv * 64 + l.val, by omega⟩ : Fin 256)))
    (hd : ∀ (x : Fin 128) (l : Fin 64), d (ix2 x l) = iblk m c 5 t (ix2 x (⟨kv * 64 + l.val, by omega⟩ : Fin 256)))
    (hz : ∀ g (hg : g < 4), z g = iblk m c 0 t (ix1 (⟨kv * 4 + g, by omega⟩ : Fin 16)))
    (R : Fin 512) (j : Fin 64) (y : S128x1024.Idx) (h0 : (y 0).val = R.val % 128)
    (h1 : (y 1).val = kv * 256 + R.val / 128 * 64 + j.val) :
    tile ((grid0.coords t) 1).val q a b e d z R j
      = REF (m ((c : Thread nD τ).loc main_arg0)) (m ((c : Thread nD τ).loc main_arg1))
          (m ((c : Thread nD τ).loc main_arg2)) (m ((c : Thread nD τ).loc main_arg3)) (((cfg0.win 6).blk t).view.emb y) := by
  have ht : t.val < 512 := t.isLt
  refine (tile_eq _ _ (m ((c : Thread nD τ).loc main_arg2)) _ hQ hK hZ _ t.val kv ht (coord t) hkv
    q a b e d z (fun g hg r l => ?_) (fun x l => ?_) (fun x l => ?_) (fun x l => ?_) (fun x l => ?_) (fun g hg => ?_) R j).trans ?_
  · rw [hq g hg, blk_q m c t ht, entry_q]
  · rw [ha, blk_kp m c t ht, entry_k]
  · rw [hb, blk_kc m c t ht, entry_k]
  · rw [he, blk_vp m c t ht, entry_v]
  · rw [hd, blk_vc m c t ht, entry_v]
  · rw [hz g hg, blk_z, entry_z]
  · refine congrArg _ (Eq.trans ?_ ((congrArg _ (eq_ix2 y)).trans (emb_out t ht (y 0) (y 1))).symm)
    exact congr (congrArg ix2 (Fin.ext (by dsimp only [row]; omega))) (Fin.ext (by dsimp only; omega))

set_option maxHeartbeats 2000000 in
/-- The result array after the run is the reference's, where the queries, keys and sinks are real. -/
theorem final (c : Dev nD) (hQ : ∀ i : S65536x1024.Idx, Real' (m ((c : Thread nD τ).loc main_arg0) i))
    (hK : ∀ i : S65536x256.Idx, Real' (m ((c : Thread nD τ).loc main_arg1) i))
    (hZ : ∀ i : S1x16.Idx, Real' (m ((c : Thread nD τ).loc main_arg3) i)) :
    (dats m 0 c).arrAt 6 (cfgs 0).N
      = REF (m ((c : Thread nD τ).loc main_arg0)) (m ((c : Thread nD τ).loc main_arg1))
          (m ((c : Thread nD τ).loc main_arg2)) (m ((c : Thread nD τ).loc main_arg3)) := by
  refine (dats m 0 c).arrAt_eq_of_covers 6 _ (by decide +kernel) fun t _ y => ?_
  have place := stored m c hQ hK hZ t
  revert place
  blk_simp
  rw [after0_6]; unfold outsAt0; frame_out
  generalize REF _ _ _ _ = W
  intro place
  canon_tiles x h
  all_goals pointwise [k0_pay2, k0_pay3, k0_pay4, k0_pay5, k0_pay46, k0_pay47, k0_pay48, k0_pay49, k0_pay51, k0_pay52,
    k0_pay53, k0_pay54, k0_pay56, k0_pay57, k0_pay58, k0_pay59]
  case piece12 | piece13 | piece14 | piece15 =>
    refine (tile0 _ _ _ _ _ _ _ _ _ _ _ _ _ _ _).trans ?_
    refine place 0 (by decide) _ _ _ _ _ _ (four_q _ 0 _ _ _ _ (by decide) rfl rfl rfl rfl _ _ _ _) (head_k _ 0 _ (by decide) rfl _)
      (head_k _ 0 _ (by decide) rfl _) (head_k _ 0 _ (by decide) rfl _) (head_k _ 0 _ (by decide) rfl _)
      (four_z _ 0 (by decide) _ _ _ _ rfl rfl rfl rfl) _ _ y ?_ ?_
    · dsimp only; omega
    · dsimp only; omega
  case piece8 | piece9 | piece10 | piece11 =>
    refine (tile1 _ _ _ _ _ _ _ _ _ _ _ _ _ _ _).trans ?_
    refine place 1 (by decide) _ _ _ _ _ _ (four_q _ 1 _ _ _ _ (by decide) rfl rfl rfl rfl _ _ _ _) (head_k _ 1 _ (by decide) rfl _)
      (head_k _ 1 _ (by decide) rfl _) (head_k _ 1 _ (by decide) rfl _) (head_k _ 1 _ (by decide) rfl _)
      (four_z _ 1 (by decide) _ _ _ _ rfl rfl rfl rfl) _ _ y ?_ ?_
    · dsimp only; omega
    · dsimp only; omega
  case piece4 | piece5 | piece6 | piece7 =>
    refine (tile2 _ _ _ _ _ _ _ _ _ _ _ _ _ _ _).trans ?_
    refine place 2 (by decide) _ _ _ _ _ _ (four_q _ 2 _ _ _ _ (by decide) rfl rfl rfl rfl _ _ _ _) (head_k _ 2 _ (by decide) rfl _)
      (head_k _ 2 _ (by decide) rfl _) (head_k _ 2 _ (by decide) rfl _) (head_k _ 2 _ (by decide) rfl _)
      (four_z _ 2 (by decide) _ _ _ _ rfl rfl rfl rfl) _ _ y ?_ ?_
    · dsimp only; omega
    · dsimp only; omega
  case piece0 | piece1 | piece2 | piece3 =>
    refine (tile3 _ _ _ _ _ _ _ _ _ _ _ _ _ _ _).trans ?_
    refine place 3 (by decide) _ _ _ _ _ _ (four_q _ 3 _ _ _ _ (by decide) rfl rfl rfl rfl _ _ _ _) (head_k _ 3 _ (by decide) rfl _)
      (head_k _ 3 _ (by decide) rfl _) (head_k _ 3 _ (by decide) rfl _) (head_k _ 3 _ (by decide) rfl _)
      (four_z _ 3 (by decide) _ _ _ _ rfl rfl rfl rfl) _ _ y ?_ ?_
    · dsimp only; omega
    · dsimp only; omega

end Cert.SwaIdeal.Value

end
-- ==== Proof.Swa.Claim.lean ====
/- The claim about attention over the last 128 tokens. -/
module

public import proofs.«01_k».proof.Defs
public import proofs.«01_k».proof.Proof.Swa.Value
public import proofs.«01_k».proof.Proof.Gen.SwaRefIdeal.Run

@[expose] public section

set_option maxRecDepth 16384

noncomputable section

namespace Cert.SwaIdeal.Value

open Idealize.ShloMosaic Idealize.SL.Sem
open Cert.Finite

attribute [local instance] Cert.SwaIdeal.Gen.facts Cert.SwaRefIdeal.Gen.facts Cert.Pre_swa_finite.Gen.facts

/-- An array with no axes has one entry. -/
local instance : Subsingleton Cert.Pre_swa_finite.S_.Idx := ⟨fun i j => funext fun a => a.elim0⟩

/-- The precondition makes the queries, the keys and the sinks real. -/
theorem real (m : (ℓ : Loc nD τ sig) → Buf (Elt Ideal) ℓ) (h : Cert.Pre_SwaIdeal_swa_finite m) (c : Dev nD) :
    (∀ i : S65536x1024.Idx, Real' (m ((c.tc : Thread nD τ).loc main_arg0) i))
      ∧ (∀ i : S65536x256.Idx, Real' (m ((c.tc : Thread nD τ).loc main_arg1) i))
      ∧ (∀ i : S1x16.Idx, Real' (m ((c.tc : Thread nD τ).loc main_arg3) i)) := by
  obtain ⟨h0, hz⟩ := both _ _ (congrFun (h c) (fun a => a.elim0))
  obtain ⟨hq, hk⟩ := both _ _ h0
  exact ⟨real_of_all _ _ (fun _ => rfl) _ _ _ _ hq, real_of_all _ _ (fun _ => rfl) _ _ _ _ hk,
    real_of_all _ _ (fun _ => rfl) _ _ _ _ hz⟩

set_option maxHeartbeats 2000000 in
/-- Over exact arithmetic the kernel ends with the attention the reference computes, where the queries, keys and sinks
    are real. -/
theorem algebraic : Cert.algebraic_SwaIdeal_SwaRefIdeal_pre_swa_finite := by
  pair_intro
  · run_from Cert.SwaIdeal.Gen.run_main m g
  · run_from Cert.SwaRefIdeal.Value.run m' g'
    · refine (Cert.SwaRefIdeal.Read.val_main_v68_eq m' c).trans ?_
      rw [(hagree c).1, (hagree c).2.1, (hagree c).2.2.1, (hagree c).2.2.2]
      exact (final m c (real m hpre c).1 (real m hpre c).2.1 (real m hpre c).2.2).symm

end Cert.SwaIdeal.Value

end
-- ==== Proof.Rows.lean ====
/- The scalar mathematics the programs share: a row normalised by its root mean square, and its product with a
   column of weights. -/
module

public import Idealize.ShloMosaic.PureOps
public import Idealize.ShloMosaic.PureOps.Ideal

@[expose] public section

noncomputable section

open Idealize.ShloMosaic

namespace Cert.Rows

/-- The reciprocal root mean square of a row of 1024 numbers: the reciprocal square root of the mean of the
    squares plus the small constant. -/
def rinv (x : Fin 1024 → EReal) : EReal :=
  Ideal.rsqrt (Ideal.div (∑ k, x k * x k) (Ideal.ofBits .f32 0x44800000#32) + Ideal.ofBits .f32 0x3727C5AC#32)

/-- Element `k` of the row `x` normalised by its root mean square and scaled by the gain `g`. -/
def norm (x g : Fin 1024 → EReal) (k : Fin 1024) : EReal := x k * rinv x * g k

/-- The normalised row times one column `w` of weights. -/
def proj (x g w : Fin 1024 → EReal) : EReal := ∑ k, norm x g k * w k

/-- The logistic function: the reciprocal of one plus the exponential of the negated argument. -/
def gate (y : EReal) : EReal :=
  Ideal.div (Ideal.ofBits .f32 0x3F800000#32) (Ideal.ofBits .f32 0x3F800000#32 + Ideal.exp (-y))

/-- The angle of rotary frequency `f` of eight at position `p`: the position times the frequency, whose reciprocal is
    500000 to the power `2 f / 16`. -/
def angle (p : BitVec 32) (f : Fin 8) : EReal :=
  FloatOps.sitofp (F := Ideal) .f32 p
    * Ideal.div 1 (Ideal.pow (Ideal.ofBits .f32 0x48F42400#32)
        (Ideal.div (Ideal.ofBits .f32 0x40000000#32 * FloatOps.sitofp (F := Ideal) .f32 (BitVec.ofNat 32 f.val))
          (Ideal.ofBits .f32 0x41800000#32)))

/-- The rotation of lane `l` of a head of 64 lanes at position `p`: the first eight lanes and the next eight are the
    two halves that turn by the angle, the other lanes stay. `t l` is the head's lane `l`. -/
def rope (p : BitVec 32) (t : ℕ → EReal) (l : ℕ) : EReal :=
  if h : l < 8 then t l * Ideal.cos (angle p ⟨l, h⟩) - t (l + 8) * Ideal.sin (angle p ⟨l, h⟩)
  else if h : l - 8 < 8 then t l * Ideal.cos (angle p ⟨l - 8, h⟩) + t (l - 8) * Ideal.sin (angle p ⟨l - 8, h⟩)
  else t l

/-- Lane `l` of the table of cosines at position `p`: one on the lanes that stay. -/
def cosLane (p : BitVec 32) (l : ℕ) : EReal :=
  if h : l < 8 then Ideal.cos (angle p ⟨l, h⟩) else if h : l - 8 < 8 then Ideal.cos (angle p ⟨l - 8, h⟩) else 1

/-- Lane `l` of the table of sines at position `p`: negated on the first half, zero on the lanes that stay. -/
def sinLane (p : BitVec 32) (l : ℕ) : EReal :=
  if h : l < 8 then -Ideal.sin (angle p ⟨l, h⟩) else if h : l - 8 < 8 then Ideal.sin (angle p ⟨l - 8, h⟩) else 0

/-- The rotation is a lane times the table of cosines plus its partner lane times the table of sines. -/
theorem rope_eq (p : BitVec 32) (t : ℕ → EReal) (l : ℕ) :
    rope p t l = t l * cosLane p l + (if l < 8 then t (l + 8) else t (l - 8)) * sinLane p l := by
  unfold rope cosLane sinLane
  by_cases h : l < 8
  · simp only [dif_pos h, if_pos h, mul_neg, sub_eq_add_neg]
  · by_cases h' : l - 8 < 8
    · simp only [dif_neg h, dif_pos h', if_neg h]
    · simp only [dif_neg h, dif_neg h', if_neg h, mul_one, mul_zero, add_zero]

end Cert.Rows

end
-- ==== Proof.InProj.Kernel.lean ====
/- The layer's projections: what the kernel's body stores at one row and column of each of its five result blocks. -/
module

public import proofs.«01_k».proof.Proof.Gen.InProjIdeal.Frame
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value
open Cert.InProjIdeal Cert.InProjIdeal.Gen

/-- The block's row, normalised. -/
theorem norm_at (x : FVec Ideal S256x1024 .f32) (g : FVec Ideal S1x1024 .f32) (r : Fin 256) (k : Fin 1024) :
    k0_pay5 (F := Ideal) x g (ix2 r k) = Rows.norm (fun k => x (ix2 r k)) (fun k => g (ix2 0 k)) k := by
  pointwise [k0_pay5, Rows.norm, Rows.rinv]

/-- The queries before the rotation: the normalised row times a column of the query weights. -/
theorem q_at (x : FVec Ideal S256x1024 .f32) (g : FVec Ideal S1x1024 .f32) (w : FVec Ideal S1024x1024 .bf16)
    (r : Fin 256) (j : Fin 1024) :
    k0_pay8 (F := Ideal) x g w (ix2 r j)
      = Rows.proj (fun k => x (ix2 r k)) (fun k => g (ix2 0 k)) (fun k => w (ix2 k j)) := by
  pointwise [k0_pay8, Rows.proj, norm_at]

/-- The keys before the rotation. -/
theorem k_at (x : FVec Ideal S256x1024 .f32) (g : FVec Ideal S1x1024 .f32) (w : FVec Ideal S1024x256 .bf16)
    (r : Fin 256) (j : Fin 256) :
    k0_pay15 (F := Ideal) (k0_pay5 x g) w (ix2 r j)
      = Rows.proj (fun k => x (ix2 r k)) (fun k => g (ix2 0 k)) (fun k => w (ix2 k j)) := by
  pointwise [k0_pay15, Rows.proj, norm_at]

/-- The values. -/
theorem v_at (x : FVec Ideal S256x1024 .f32) (g : FVec Ideal S1x1024 .f32) (w : FVec Ideal S1024x256 .bf16)
    (r : Fin 256) (j : Fin 256) :
    k0_pay2 (F := Ideal) (k0_pay5 x g) w (ix2 r j)
      = Rows.proj (fun k => x (ix2 r k)) (fun k => g (ix2 0 k)) (fun k => w (ix2 k j)) := by
  pointwise [k0_pay2, Rows.proj, norm_at]

/-- The projections that the recurrence reads. -/
theorem p_at (x : FVec Ideal S256x1024 .f32) (g : FVec Ideal S1x1024 .f32) (w : FVec Ideal S1024x3328 .bf16)
    (r : Fin 256) (j : Fin 3328) :
    k0_pay3 (F := Ideal) (k0_pay5 x g) w (ix2 r j)
      = Rows.proj (fun k => x (ix2 r k)) (fun k => g (ix2 0 k)) (fun k => w (ix2 k j)) := by
  pointwise [k0_pay3, Rows.proj, norm_at]

/-- The gates: the projection through the logistic function. -/
theorem gates_at (x : FVec Ideal S256x1024 .f32) (g : FVec Ideal S1x1024 .f32) (w : FVec Ideal S1024x2048 .bf16)
    (r : Fin 256) (j : Fin 2048) :
    k0_pay4 (F := Ideal) (k0_pay5 x g) w (ix2 r j)
      = Rows.gate (Rows.proj (fun k => x (ix2 r k)) (fun k => g (ix2 0 k)) (fun k => w (ix2 k j))) := by
  pointwise [k0_pay4, Rows.proj, Rows.gate, norm_at]
  rw [zero_sub]

/-- The kernel's number of a head's lane, as words: 64. -/
abbrev width : BitVec 32 := Scalar.select (Scalar.cmpi .eq 64#32 0#32) 1#32 64#32

/-- The kernel's test of a lane, as words. -/
def first (j : ℕ) : BitVec 1 :=
  IntOp.cmpi .slt
    (Scalar.select
      (IntOp.andi (IntOp.xori (IntOp.cmpi .slt (IntOp.remsi .vector (BitVec.ofNat 32 j) width) 0#32) (Scalar.cmpi .slt width 0#32))
        (IntOp.cmpi .ne (IntOp.remsi .vector (BitVec.ofNat 32 j) width) 0#32))
      (IntOp.addi (IntOp.remsi .vector (BitVec.ofNat 32 j) width) width)
      (IntOp.remsi .vector (BitVec.ofNat 32 j) width)) 8#32

/-- The kernel's test of a lane holds exactly at the first eight lanes of a head. -/
theorem first_eq (j : ℕ) (hj : j < 1024) : first j = if j % 64 < 8 then 1#1 else 0#1 :=
  (by decide +kernel : ∀ j : Fin 1024, first j.val = if j.val % 64 < 8 then 1#1 else 0#1) ⟨j, hj⟩

/-- A choice by the kernel's test of a lane. -/
theorem select_first {α : Type} (j : ℕ) (hj : j < 1024) (a b : α) :
    Scalar.select (first j) a b = if j % 64 < 8 then a else b := by
  rw [first_eq j hj]
  by_cases h : j % 64 < 8
  · rw [if_pos h, if_pos h]; rfl
  · rw [if_neg h, if_neg h]; rfl

/-- The table of the queries' cosines repeats its 128 lanes. -/
theorem cos_q (c : FVec Ideal S256x128 .f32) (r : Fin 256) (j : Fin 1024) :
    k0_pay9 (F := Ideal) c (ix2 r j) = c (ix2 r (⟨j.val % 128, by omega⟩ : Fin 128)) := by
  pointwise [k0_pay9, k0_pay6]
  repeat' split
  all_goals exact congrArg c (congrArg (ix2 r) (Fin.ext (by dsimp only; omega)))

/-- The table of the queries' sines repeats its 128 lanes. -/
theorem sin_q (s : FVec Ideal S256x128 .f32) (r : Fin 256) (j : Fin 1024) :
    k0_pay10 (F := Ideal) s (ix2 r j) = s (ix2 r (⟨j.val % 128, by omega⟩ : Fin 128)) := by
  pointwise [k0_pay10, k0_pay7]
  repeat' split
  all_goals exact congrArg s (congrArg (ix2 r) (Fin.ext (by dsimp only; omega)))

/-- The table of the keys' sines repeats its 128 lanes. -/
theorem sin_k (s : FVec Ideal S256x128 .f32) (r : Fin 256) (j : Fin 256) :
    k0_pay16 (F := Ideal) (k0_pay7 s) (ix2 r j) = s (ix2 r (⟨j.val % 128, by omega⟩ : Fin 128)) := by
  pointwise [k0_pay16, k0_pay7]
  repeat' split
  all_goals exact congrArg s (congrArg (ix2 r) (Fin.ext (by dsimp only; omega)))

/-- The queries after the rotation: each lane times the table of cosines, plus its partner lane times the table of
    sines. -/
theorem rot_q (t : FVec Ideal S256x1024 .f32) (c s : FVec Ideal S256x128 .f32) (r : Fin 256) (j : Fin 1024) :
    k0_pay14 (F := Ideal) t (k0_pay9 c) (k0_pay10 s) width k0_pay11 k0_pay12 k0_pay13 (ix2 r j)
      = t (ix2 r j) * c (ix2 r (⟨j.val % 128, by omega⟩ : Fin 128))
        + (if j.val % 64 < 8 then t (ix2 r (⟨(j.val + 8) % 1024, by omega⟩ : Fin 1024))
            else t (ix2 r (⟨(j.val + 1016) % 1024, by omega⟩ : Fin 1024))) * s (ix2 r (⟨j.val % 128, by omega⟩ : Fin 128)) := by
  pointwise [k0_pay14, cos_q, sin_q, k0_pay11, k0_pay12, k0_pay13]
  refine (congrArg (fun z => _ + z * _) (select_first j.val j.isLt _ _)).trans ?_
  rfl

/-- The keys after the rotation: each lane times the table of cosines, plus its partner lane times the table of
    sines. -/
theorem rot_k (x : FVec Ideal S256x1024 .bf16) (w : FVec Ideal S1024x256 .bf16) (c s : FVec Ideal S256x128 .f32)
    (r : Fin 256) (j : Fin 256) :
    k0_pay1 (F := Ideal) (k0_pay16 (k0_pay7 s)) (k0_pay17 x w) (k0_pay18 x (k0_pay6 c) w) (ix2 r j)
      = k0_pay15 (F := Ideal) x w (ix2 r j) * c (ix2 r (⟨j.val % 128, by omega⟩ : Fin 128))
        + (if j.val % 64 < 8 then k0_pay15 (F := Ideal) x w (ix2 r (⟨(j.val + 8) % 256, by omega⟩ : Fin 256))
            else k0_pay15 (F := Ideal) x w (ix2 r (⟨(j.val + 248) % 256, by omega⟩ : Fin 256)))
          * s (ix2 r (⟨j.val % 128, by omega⟩ : Fin 128)) := by
  have hc : k0_pay18 (F := Ideal) x (k0_pay6 c) w (ix2 r j)
      = k0_pay15 (F := Ideal) x w (ix2 r j) * c (ix2 r (⟨j.val % 128, by omega⟩ : Fin 128)) := by
    unfold k0_pay18
    generalize k0_pay15 (F := Ideal) x w = T
    pointwise [k0_pay6]
    refine congrArg (fun z => _ * z) ?_
    repeat' split
    all_goals exact congrArg c (congrArg (ix2 r) (Fin.ext (by dsimp only; omega)))
  have hp : k0_pay17 (F := Ideal) x w (ix2 r j)
      = if j.val % 64 < 8 then k0_pay15 (F := Ideal) x w (ix2 r (⟨(j.val + 8) % 256, by omega⟩ : Fin 256))
            else k0_pay15 (F := Ideal) x w (ix2 r (⟨(j.val + 248) % 256, by omega⟩ : Fin 256)) := by
    unfold k0_pay17
    generalize k0_pay15 (F := Ideal) x w = T
    pointwise
    exact select_first j.val (by omega) _ _
  rw [← hc, ← hp, ← sin_k s r j]
  rfl

end Cert.InProjIdeal.Value

end
-- ==== Proof.InProj.Entry.lean ====
/- The layer's projections: the arrays the kernel reads, in the arguments, and where its blocks lie in them. -/
module

public import proofs.«01_k».proof.Proof.Gen.InProjIdeal.Frame
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Value
open Cert.InProjIdeal Cert.InProjIdeal.Gen

variable (m : (ℓ : Loc nD τ sig) → Buf (Elt Ideal) ℓ)

/-- The position of row `n`: row `n % 2048` of sequence `n / 2048`. -/
abbrev posn (c : Dev nD) (n : Fin 65536) : BitVec 32 :=
  m ((c : Thread nD τ).loc main_arg1) (ix2 (⟨n / 2048, by omega⟩ : Fin 32) (⟨n % 2048, by omega⟩ : Fin 2048))

set_option maxHeartbeats 2000000 in
/-- The angles the tables are made of. -/
theorem entry_angle (c : Dev nD) (n : Fin 65536) (f : Fin 8) :
    V m c main_v17 (ix2 n f) = Rows.angle (posn m c n) f := by
  entry_read
  pointwise [Rows.angle]

/-- The table of cosines before it is repeated, in the table of angles. -/
theorem entry_cos64 (c : Dev nD) :
    V m c main_v22 = concatenate S65536x64 1 [⟨S65536x8, Host.cos (V m c main_v17)⟩, ⟨S65536x8, Host.cos (V m c main_v17)⟩,
      ⟨S65536x48, broadcastInDim S65536x48 ![] bcast_S_S65536x48 (constant (F := Ideal) S_ .f32 0x3F800000#32)⟩] concatenates_S65536x8_S65536x8_S65536x48_S65536x64_d1 := by
  rfl

/-- The table of sines before it is repeated, in the table of angles. -/
theorem entry_sin64 (c : Dev nD) :
    V m c main_v24 = concatenate S65536x64 1 [⟨S65536x8, Host.negf (Host.sin (V m c main_v17))⟩, ⟨S65536x8, Host.sin (V m c main_v17)⟩,
      ⟨S65536x48, broadcastInDim S65536x48 ![] bcast_S_S65536x48 (constant (F := Ideal) S_ .f32 0x00000000#32)⟩] concatenates_S65536x8_S65536x8_S65536x48_S65536x64_d1 := by
  rfl

/-- A table repeated twice along its lanes. -/
def twice (X : FVec Ideal S65536x64 .f32) : FVec Ideal S65536x128 .f32 :=
  shapeCast S65536x128 (broadcastInDim S1x65536x2x64 ![0, 1, 2, 3] bcast_S1x65536x1x64_S1x65536x2x64_0_1_2_3
    (shapeCast S1x65536x1x64 X shapeCasts_S65536x64_S1x65536x1x64)) shapeCasts_S1x65536x2x64_S65536x128

/-- The table repeated twice, at a lane. -/
theorem twice_at (X : FVec Ideal S65536x64 .f32) (n : Fin 65536) (l : Fin 128) :
    twice X (ix2 n l) = X (ix2 n (⟨l.val % 64, by omega⟩ : Fin 64)) := by
  pointwise [twice]

/-- The table of cosines the kernel reads is the short one repeated. -/
theorem entry_cos128 (c : Dev nD) : V m c main_v27 = twice (V m c main_v22) := by rfl

/-- The table of sines the kernel reads is the short one repeated. -/
theorem entry_sin128 (c : Dev nD) : V m c main_v30 = twice (V m c main_v24) := by rfl

/-- The table of cosines the kernel reads, at row `n` and lane `l`. -/
theorem entry_cos (c : Dev nD) (n : Fin 65536) (l : Fin 128) :
    V m c main_v27 (ix2 n l) = Rows.cosLane (posn m c n) (l.val % 64) := by
  have h := entry_angle m c n
  rw [entry_cos128, twice_at, entry_cos64]
  generalize V m c main_v17 = A at h ⊢
  pointwise [Rows.cosLane]
  simp only [h]

/-- The table of sines the kernel reads, at row `n` and lane `l`. -/
theorem entry_sin (c : Dev nD) (n : Fin 65536) (l : Fin 128) :
    V m c main_v30 (ix2 n l) = Rows.sinLane (posn m c n) (l.val % 64) := by
  have h := entry_angle m c n
  rw [entry_sin128, twice_at, entry_sin64]
  generalize V m c main_v17 = A at h ⊢
  pointwise [Rows.sinLane]
  simp only [h]

/-- The sequences' rows in one matrix, at row `n`. -/
theorem rows_at (X : FVec Ideal S32x2048x1024 .f32) (n : Fin 65536) (k : Fin 1024) :
    shapeCast S65536x1024 X shapeCasts_S32x2048x1024_S65536x1024 (ix2 n k)
      = X (ix3 (⟨n / 2048, by omega⟩ : Fin 32) (⟨n % 2048, by omega⟩ : Fin 2048) k) := by
  pointwise

/-- The gain's two reshapes together change nothing. -/
theorem gain_at (X : FVec Ideal S1x1024 .f32) (k : Fin 1024) :
    shapeCast S1x1024 (shapeCast S1024 X shapeCasts_S1x1024_S1024) shapeCasts_S1024_S1x1024 (ix2 (0 : Fin 1) k)
      = X (ix2 (0 : Fin 1) k) := by
  pointwise

/-- The weights without their leading axis of length one, at row `k` and column `j`. -/
theorem weights_at (X : FVec Ideal S1x1024x6912 .f32) (k : Fin 1024) (j : Fin 6912) :
    truncf (F := Ideal) .bf16 (shapeCast S1024x6912 X shapeCasts_S1x1024x6912_S1024x6912) bitsLt_bf16_f32 (ix2 k j)
      = X (ix3 (0 : Fin 1) k j) := by
  pointwise

/-- The rows the kernel reads: the sequences' rows in one matrix. -/
theorem entry_x (c : Dev nD) (n : Fin 65536) (k : Fin 1024) :
    V m c main_v31 (ix2 n k) = m ((c : Thread nD τ).loc main_arg0)
      (ix3 (⟨n / 2048, by omega⟩ : Fin 32) (⟨n % 2048, by omega⟩ : Fin 2048) k) := by
  have h : V m c main_v31 = shapeCast S65536x1024 (m ((c : Thread nD τ).loc main_arg0)) shapeCasts_S32x2048x1024_S65536x1024 := by rfl
  exact (congrFun h _).trans (rows_at _ n k)

/-- The gain the kernel reads. -/
theorem entry_g (c : Dev nD) (k : Fin 1024) :
    V m c main_v35 (ix2 (0 : Fin 1) k) = m ((c : Thread nD τ).loc main_arg2) (ix2 (0 : Fin 1) k) := by
  have h : V m c main_v35 = shapeCast S1x1024 (shapeCast S1024 (m ((c : Thread nD τ).loc main_arg2)) shapeCasts_S1x1024_S1024) shapeCasts_S1024_S1x1024 := by rfl
  exact (congrFun h _).trans (gain_at _ k)

/-- The weights the kernel reads. -/
theorem entry_w (c : Dev nD) (k : Fin 1024) (j : Fin 6912) :
    V m c main_v34 (ix2 k j) = m ((c : Thread nD τ).loc main_arg3) (ix3 (0 : Fin 1) k j) := by
  have h : V m c main_v34 = truncf (F := Ideal) .bf16 (shapeCast S1024x6912 (m ((c : Thread nD τ).loc main_arg3)) shapeCasts_S1x1024x6912_S1024x6912) bitsLt_bf16_f32 := by rfl
  exact (congrFun h _).trans (weights_at _ k j)

/-- Where each window's block lies at grid point `t`: rows advance block by block, the gain and the weights are
    whole. -/
theorem idx : ∀ t : Fin cfg0.N, win0_0.index t = ![t.val, 0] ∧ win0_1.index t = ![0, 0] ∧
    win0_2.index t = ![0, 0] ∧ win0_3.index t = ![t.val, 0] ∧ win0_4.index t = ![t.val, 0] ∧
    win0_5.index t = ![t.val, 0] ∧ win0_6.index t = ![t.val, 0] ∧ win0_7.index t = ![t.val, 0] ∧
    win0_8.index t = ![t.val, 0] ∧ win0_9.index t = ![t.val, 0] :=
  (by decide +kernel : ∀ t : Fin grid0.N, _)

/-- Row `r` of block `t` in the whole matrix. -/
abbrev row (t : Fin cfg0.N) (ht : t.val < 256) (r : Fin 256) : Fin 65536 := ⟨t.val * 256 + r.val, by omega⟩

/-- The block of rows at grid point `t`. -/
theorem blk_x (c : Dev nD) (t : Fin cfg0.N) (ht : t.val < 256) (r : Fin 256) (k : Fin 1024) :
    iblk m c 0 t (ix2 r k) = V m c main_v31 (ix2 (row t ht r) k) := by
  unfold iblk
  generalize V m c main_v31 = X
  blk_ext [idx t]

/-- The block of the gain is the gain. -/
theorem blk_g (c : Dev nD) (t : Fin cfg0.N) (k : Fin 1024) :
    iblk m c 1 t (ix2 (0 : Fin 1) k) = V m c main_v35 (ix2 (0 : Fin 1) k) := by
  unfold iblk
  generalize V m c main_v35 = X
  blk_ext [idx t]

/-- The block of the weights is the weights. -/
theorem blk_w (c : Dev nD) (t : Fin cfg0.N) (k : Fin 1024) (j : Fin 6912) :
    iblk m c 2 t (ix2 k j) = V m c main_v34 (ix2 k j) := by
  unfold iblk
  generalize V m c main_v34 = X
  blk_ext [idx t]

/-- The block of the table of cosines at grid point `t`. -/
theorem blk_c (c : Dev nD) (t : Fin cfg0.N) (ht : t.val < 256) (r : Fin 256) (l : Fin 128) :
    iblk m c 3 t (ix2 r l) = V m c main_v27 (ix2 (row t ht r) l) := by
  unfold iblk
  generalize V m c main_v27 = X
  blk_ext [idx t]

/-- The block of the table of sines at grid point `t`. -/
theorem blk_s (c : Dev nD) (t : Fin cfg0.N) (ht : t.val < 256) (r : Fin 256) (l : Fin 128) :
    iblk m c 4 t (ix2 r l) = V m c main_v30 (ix2 (row t ht r) l) := by
  unfold iblk
  generalize V m c main_v30 = X
  blk_ext [idx t]

/-- Where the queries' block of grid point `t` lies. -/
theorem emb_q (t : Fin cfg0.N) (ht : t.val < 256) (r : Fin 256) (j : Fin 1024) :
    ((cfg0.win 5).blk t).view.emb (ix2 r j) = ix2 (row t ht r) j := by
  blk_ext [idx t]

/-- Where the keys' block of grid point `t` lies. -/
theorem emb_k (t : Fin cfg0.N) (ht : t.val < 256) (r : Fin 256) (j : Fin 256) :
    ((cfg0.win 6).blk t).view.emb (ix2 r j) = ix2 (row t ht r) j := by
  blk_ext [idx t]

/-- Where the values' block of grid point `t` lies. -/
theorem emb_v (t : Fin cfg0.N) (ht : t.val < 256) (r : Fin 256) (j : Fin 256) :
    ((cfg0.win 7).blk t).view.emb (ix2 r j) = ix2 (row t ht r) j := by
  blk_ext [idx t]

/-- Where the block of the recurrence's projections of grid point `t` lies. -/
theorem emb_p (t : Fin cfg0.N) (ht : t.val < 256) (r : Fin 256) (j : Fin 3328) :
    ((cfg0.win 8).blk t).view.emb (ix2 r j) = ix2 (row t ht r) j := by
  blk_ext [idx t]

/-- Where the gates' block of grid point `t` lies. -/
theorem emb_gates (t : Fin cfg0.N) (ht : t.val < 256) (r : Fin 256) (j : Fin 2048) :
    ((cfg0.win 9).blk t).view.emb (ix2 r j) = ix2 (row t ht r) j := by
  blk_ext [idx t]

end Cert.InProjIdeal.Value

end
-- ==== Proof.InProj.Reference.lean ====
/- The layer's projections: what the reference computes at one row and column of each of its five results. -/
module

public import proofs.«01_k».proof.Proof.Gen.InProjRefIdeal.Read
public import proofs.«01_k».proof.Proof.Rows
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.InProjRefIdeal.Value
open Cert.InProjRefIdeal Cert.InProjRefIdeal.Read

variable (x : FVec Ideal S32x2048x1024 .f32) (p : IVec S32x2048 32) (g : FVec Ideal S1x1024 .f32)
  (w : FVec Ideal S1x1024x6912 .f32)

/-- Row `s` of sequence `b`, normalised and times column `j` of the weights (their 6912 columns counted round). -/
def projAt (b : Fin 32) (s : Fin 2048) (j : ℕ) : EReal :=
  Rows.proj (fun k => x (ix3 b s k)) (fun k => g (ix2 0 k)) (fun k => w (ix3 0 k (⟨j % 6912, by omega⟩ : Fin 6912)))

/-- The projection the results are slices of. -/
theorem proj_at (b : Fin 32) (s : Fin 2048) (j : Fin 6912) :
    val_main_v15 (F := Ideal) x g w (ix3 b s j) = projAt x g w b s j.val := by
  have hj : (⟨j.val % 6912, by omega⟩ : Fin 6912) = j := Fin.ext (by dsimp only; omega)
  unfold projAt
  rw [hj]
  pointwise [Rows.proj, Rows.norm, Rows.rinv, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1]

/-- The angles of the queries' rotation. -/
theorem angle_q (b : Fin 32) (s : Fin 2048) (f : Fin 8) :
    val_main_v34 (F := Ideal) p (ix3 b s f) = Rows.angle (p (ix2 b s)) f := by
  pointwise [Rows.angle, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_cst_2, val_main_cst_3, val_main_cst_4, val_main_cst_5, val_main_cst_6]

/-- The angles of the keys' rotation are the queries'. -/
theorem angle_k : val_main_v73 (F := Ideal) p = val_main_v34 p := rfl

/-- The rotation written as the two halves and the rest joined, the lanes counted from column `o` on. -/
theorem rope_join (q : BitVec 32) (t : ℕ → EReal) (o l : ℕ) :
    (if h1 : l < 16 then
      if h2 : l < 8 then
        t (o + l) * Ideal.cos (Rows.angle q ⟨l, h2⟩) - t (o + (8 + l)) * Ideal.sin (Rows.angle q ⟨l, h2⟩)
      else
        t (o + (8 + (l - 8))) * Ideal.cos (Rows.angle q ⟨l - 8, by omega⟩)
          + t (o + (l - 8)) * Ideal.sin (Rows.angle q ⟨l - 8, by omega⟩)
    else t (o + (16 + (l - 16)))) = Rows.rope q (fun l' => t (o + l')) l := by
  unfold Rows.rope
  by_cases h2 : l < 8
  · rw [dif_pos (by omega), dif_pos h2, dif_pos h2, Nat.add_comm 8 l]
  · by_cases h1 : l < 16
    · rw [dif_pos h1, dif_neg h2, dif_neg h2, dif_pos (by omega), show 8 + (l - 8) = l by omega]
    · rw [dif_neg h1, dif_neg h2, dif_neg (by omega), show 16 + (l - 16) = l by omega]

/-- The reference's queries at head `h`, lane `l`. -/
theorem q_at (b : Fin 32) (s : Fin 2048) (h : Fin 16) (l : Fin 64) :
    val_main_v54 (F := Ideal) x p g w (ix4 b s h l)
      = Rows.rope (p (ix2 b s)) (fun l' => projAt x g w b s (h.val * 64 + l')) l.val := by
  refine Eq.trans ?_ (rope_join (p (ix2 b s)) (projAt x g w b s) (h.val * 64) l.val)
  pointwise [val_main_v54, val_main_v53, val_main_v52, val_main_v51, val_main_v50, val_main_v49, val_main_v48,
    val_main_v47, val_main_v46, val_main_v45, val_main_v44, val_main_v43, val_main_v42, val_main_v41, val_main_v40,
    val_main_v39, val_main_v38, val_main_v37, val_main_v36, val_main_v35, val_main_v17, val_main_v16, proj_at, angle_q]

/-- The reference's keys at head `h`, lane `l`. -/
theorem k_at (b : Fin 32) (s : Fin 2048) (h : Fin 4) (l : Fin 64) :
    val_main_v93 (F := Ideal) x p g w (ix4 b s h l)
      = Rows.rope (p (ix2 b s)) (fun l' => projAt x g w b s (1024 + h.val * 64 + l')) l.val := by
  refine Eq.trans ?_ (rope_join (p (ix2 b s)) (projAt x g w b s) (1024 + h.val * 64) l.val)
  pointwise [val_main_v93, val_main_v92, val_main_v91, val_main_v90, val_main_v89, val_main_v88, val_main_v87,
    val_main_v86, val_main_v85, val_main_v84, val_main_v83, val_main_v82, val_main_v81, val_main_v80, val_main_v79,
    val_main_v78, val_main_v77, val_main_v76, val_main_v75, val_main_v74, val_main_v56, val_main_v55, proj_at, angle_k, angle_q]
  simp only [Nat.add_assoc]

/-- The queries, one row a sequence position, one column a lane of a head. -/
theorem ref_q (n : Fin 65536) (j : Fin 1024) :
    val_main_v104 (F := Ideal) x p g w (ix2 n j)
      = Rows.rope (p (ix2 (⟨n / 2048, by omega⟩ : Fin 32) (⟨n % 2048, by omega⟩ : Fin 2048)))
          (fun l' => projAt x g w (⟨n / 2048, by omega⟩ : Fin 32) (⟨n % 2048, by omega⟩ : Fin 2048) (j.val / 64 * 64 + l')) (j.val % 64) := by
  have h := q_at x p g w (⟨n / 2048, by omega⟩ : Fin 32) (⟨n % 2048, by omega⟩ : Fin 2048) (⟨j.val / 64, by omega⟩ : Fin 16)
    (⟨j.val % 64, by omega⟩ : Fin 64)
  refine Eq.trans ?_ h
  unfold val_main_v104 val_main_v103
  generalize val_main_v54 (F := Ideal) x p g w = X
  pointwise

/-- The keys, one row a sequence position, one column a lane of a head. -/
theorem ref_k (n : Fin 65536) (j : Fin 256) :
    val_main_v106 (F := Ideal) x p g w (ix2 n j)
      = Rows.rope (p (ix2 (⟨n / 2048, by omega⟩ : Fin 32) (⟨n % 2048, by omega⟩ : Fin 2048)))
          (fun l' => projAt x g w (⟨n / 2048, by omega⟩ : Fin 32) (⟨n % 2048, by omega⟩ : Fin 2048) (1024 + j.val / 64 * 64 + l')) (j.val % 64) := by
  have h := k_at x p g w (⟨n / 2048, by omega⟩ : Fin 32) (⟨n % 2048, by omega⟩ : Fin 2048) (⟨j.val / 64, by omega⟩ : Fin 4)
    (⟨j.val % 64, by omega⟩ : Fin 64)
  refine Eq.trans ?_ h
  unfold val_main_v106 val_main_v105
  generalize val_main_v93 (F := Ideal) x p g w = X
  pointwise

/-- The values. -/
theorem ref_v (n : Fin 65536) (j : Fin 256) :
    val_main_v108 (F := Ideal) x g w (ix2 n j)
      = projAt x g w (⟨n / 2048, by omega⟩ : Fin 32) (⟨n % 2048, by omega⟩ : Fin 2048) (1280 + j.val) := by
  pointwise [val_main_v108, val_main_v107, val_main_v94, proj_at]

/-- The projections that the recurrence reads. -/
theorem ref_p (n : Fin 65536) (j : Fin 3328) :
    val_main_v109 (F := Ideal) x g w (ix2 n j)
      = projAt x g w (⟨n / 2048, by omega⟩ : Fin 32) (⟨n % 2048, by omega⟩ : Fin 2048) (1536 + j.val) := by
  pointwise [val_main_v109, val_main_v95, proj_at]

/-- The gates. -/
theorem ref_gates (n : Fin 65536) (j : Fin 2048) :
    val_main_v111 (F := Ideal) x g w (ix2 n j)
      = Rows.gate (projAt x g w (⟨n / 2048, by omega⟩ : Fin 32) (⟨n % 2048, by omega⟩ : Fin 2048) (4864 + j.val)) := by
  pointwise [Rows.gate, val_main_v111, val_main_v110, val_main_v102, val_main_v101, val_main_v100, val_main_v99, val_main_v98,
    val_main_v97, val_main_v96, val_main_cst_12, val_main_cst_13, proj_at]

end Cert.InProjRefIdeal.Value

end
-- ==== Proof.InProj.Value.lean ====
/- The layer's projections: each result array after the run is the reference's. -/
module

public import proofs.«01_k».proof.Proof.InProj.Kernel
public import proofs.«01_k».proof.Proof.InProj.Entry
public import proofs.«01_k».proof.Proof.InProj.Reference

@[expose] public section

set_option maxRecDepth 16384

noncomputable section

open Idealize.ShloMosaic Idealize.ShloMosaic.TcCoe Idealize.SL.Sem
open Idealize.ShloMosaic.Pipeline (Dat)

namespace Cert.InProjIdeal.Value
open Cert.InProjIdeal Cert.InProjIdeal.Gen

variable (m : (ℓ : Loc nD τ sig) → Buf (Elt Ideal) ℓ)

/-- The reference's projection of row `n`, column `j`, over the arguments as launched. -/
abbrev projN (c : Dev nD) (n : Fin 65536) (j : ℕ) : EReal :=
  Cert.InProjRefIdeal.Value.projAt (m ((c : Thread nD τ).loc main_arg0)) (m ((c : Thread nD τ).loc main_arg2))
    (m ((c : Thread nD τ).loc main_arg3)) (⟨n / 2048, by omega⟩ : Fin 32) (⟨n % 2048, by omega⟩ : Fin 2048) j

/-- A block's row normalised and times a column of the weights' block is the reference's projection. -/
theorem proj_blk (c : Dev nD) (t : Fin cfg0.N) (ht : t.val < 256) (r : Fin 256) (j : ℕ) (hj : j < 6912) :
    Rows.proj (fun k => iblk m c 0 t (ix2 r k)) (fun k => iblk m c 1 t (ix2 (0 : Fin 1) k))
        (fun k => iblk m c 2 t (ix2 k (⟨j, hj⟩ : Fin 6912)))
      = projN m c (row t ht r) j := by
  unfold projN Cert.InProjRefIdeal.Value.projAt
  congr 1
  · funext k
    rw [blk_x m c t ht, entry_x]
  · funext k
    rw [blk_g, entry_g]
  · funext k
    rw [blk_w, entry_w]
    congr 2
    exact Fin.ext (Nat.mod_eq_of_lt hj).symm

/-- The query weights are the first columns of the weights. -/
theorem ld_q (X : Vec Ideal S1024x6912 .bf16) (k : Fin 1024) (j : Fin 1024) :
    View.ld X r0_3 (ix2 k j) = X (ix2 k (⟨j.val, by omega⟩ : Fin 6912)) := by
  refine congrArg X (funext fun a => Fin.ext ?_)
  match a with
  | 0 => exact (by omega : 0 + 1 * k.val = k.val)
  | 1 => exact (by omega : 0 + 1 * j.val = j.val)

/-- The key weights are the columns from 1024 on. -/
theorem ld_k (X : Vec Ideal S1024x6912 .bf16) (k : Fin 1024) (j : Fin 256) :
    View.ld X r0_4 (ix2 k j) = X (ix2 k (⟨1024 + j.val, by omega⟩ : Fin 6912)) := by
  refine congrArg X (funext fun a => Fin.ext ?_)
  match a with
  | 0 => exact (by omega : 0 + 1 * k.val = k.val)
  | 1 => exact (by omega : 1024 + 1 * j.val = 1024 + j.val)

/-- The value weights are the columns from 1280 on. -/
theorem ld_v (X : Vec Ideal S1024x6912 .bf16) (k : Fin 1024) (j : Fin 256) :
    View.ld X r0_6 (ix2 k j) = X (ix2 k (⟨1280 + j.val, by omega⟩ : Fin 6912)) := by
  refine congrArg X (funext fun a => Fin.ext ?_)
  match a with
  | 0 => exact (by omega : 0 + 1 * k.val = k.val)
  | 1 => exact (by omega : 1280 + 1 * j.val = 1280 + j.val)

/-- The weights of the recurrence's projections are the columns from 1536 on. -/
theorem ld_p (X : Vec Ideal S1024x6912 .bf16) (k : Fin 1024) (j : Fin 3328) :
    View.ld X r0_7 (ix2 k j) = X (ix2 k (⟨1536 + j.val, by omega⟩ : Fin 6912)) := by
  refine congrArg X (funext fun a => Fin.ext ?_)
  match a with
  | 0 => exact (by omega : 0 + 1 * k.val = k.val)
  | 1 => exact (by omega : 1536 + 1 * j.val = 1536 + j.val)

/-- The gates' weights are the columns from 4864 on. -/
theorem ld_gates (X : Vec Ideal S1024x6912 .bf16) (k : Fin 1024) (j : Fin 2048) :
    View.ld X r0_9 (ix2 k j) = X (ix2 k (⟨4864 + j.val, by omega⟩ : Fin 6912)) := by
  refine congrArg X (funext fun a => Fin.ext ?_)
  match a with
  | 0 => exact (by omega : 0 + 1 * k.val = k.val)
  | 1 => exact (by omega : 4864 + 1 * j.val = 4864 + j.val)

/-- The normalised rows of a block, read whole. -/
theorem rows_block (x : Vec Ideal S256x1024 .f32) (g : Vec Ideal S1x1024 .f32) (w : Vec Ideal S1024x6912 .bf16)
    (a b : Vec Ideal S256x128 .f32) : k0_pay19 (F := Ideal) x g w a b = k0_pay5 x g := by
  unfold k0_pay19
  rw [View.ld_unit_zero (by decide), View.ld_unit_zero (by decide)]

/-- The kernel's rotation, over the whole width `W` of all heads with partners counted round, is the rotation of each
    head's lanes. -/
theorem rope_wide (p : BitVec 32) (T : ℕ → EReal) (W o j : ℕ) (hj : j < W) (hW : W % 64 = 0) :
    T (o + j) * Rows.cosLane p (j % 128 % 64)
        + (if j % 64 < 8 then T (o + (j + 8) % W) else T (o + (j + (W - 8)) % W)) * Rows.sinLane p (j % 128 % 64)
      = Rows.rope p (fun l => T (o + j / 64 * 64 + l)) (j % 64) := by
  rw [Rows.rope_eq, show j % 128 % 64 = j % 64 by omega]
  rw [show o + j / 64 * 64 + j % 64 = o + j by omega]
  by_cases h : j % 64 < 8
  · rw [if_pos h, if_pos h, Nat.mod_eq_of_lt (by omega : j + 8 < W), show o + j / 64 * 64 + (j % 64 + 8) = o + (j + 8) by omega]
  · rw [if_neg h, if_neg h, show j + (W - 8) = (j - 8) + W by omega, Nat.add_mod_right, Nat.mod_eq_of_lt (by omega : j - 8 < W),
      show o + j / 64 * 64 + (j % 64 - 8) = o + (j - 8) by omega]

/-- The reference's five results over the arguments as launched. -/
abbrev REFq (c : Dev nD) := Cert.InProjRefIdeal.Read.val_main_v104 (F := Ideal) (m ((c : Thread nD τ).loc main_arg0))
  (m ((c : Thread nD τ).loc main_arg1)) (m ((c : Thread nD τ).loc main_arg2)) (m ((c : Thread nD τ).loc main_arg3))
@[inherit_doc REFq] abbrev REFk (c : Dev nD) := Cert.InProjRefIdeal.Read.val_main_v106 (F := Ideal) (m ((c : Thread nD τ).loc main_arg0))
  (m ((c : Thread nD τ).loc main_arg1)) (m ((c : Thread nD τ).loc main_arg2)) (m ((c : Thread nD τ).loc main_arg3))
@[inherit_doc REFq] abbrev REFv (c : Dev nD) := Cert.InProjRefIdeal.Read.val_main_v108 (F := Ideal) (m ((c : Thread nD τ).loc main_arg0))
  (m ((c : Thread nD τ).loc main_arg2)) (m ((c : Thread nD τ).loc main_arg3))
@[inherit_doc REFq] abbrev REFp (c : Dev nD) := Cert.InProjRefIdeal.Read.val_main_v109 (F := Ideal) (m ((c : Thread nD τ).loc main_arg0))
  (m ((c : Thread nD τ).loc main_arg2)) (m ((c : Thread nD τ).loc main_arg3))
@[inherit_doc REFq] abbrev REFgates (c : Dev nD) := Cert.InProjRefIdeal.Read.val_main_v111 (F := Ideal) (m ((c : Thread nD τ).loc main_arg0))
  (m ((c : Thread nD τ).loc main_arg2)) (m ((c : Thread nD τ).loc main_arg3))

/-- The stored queries are the reference's. -/
theorem point_q (c : Dev nD) (t : Fin cfg0.N) (r : Fin 256) (j : Fin 1024) :
    k0_pay14 (F := Ideal) (k0_pay8 (iblk m c 0 t) (iblk m c 1 t) (View.ld (iblk m c 2 t) r0_3)) (k0_pay9 (iblk m c 3 t))
        (k0_pay10 (iblk m c 4 t)) width k0_pay11 k0_pay12 k0_pay13 (ix2 r j)
      = REFq m c (((cfg0.win 5).blk t).view.emb (ix2 r j)) := by
  have ht : t.val < 256 := t.isLt
  have hT : ∀ j' : Fin 1024, k0_pay8 (F := Ideal) (iblk m c 0 t) (iblk m c 1 t) (View.ld (iblk m c 2 t) r0_3) (ix2 r j')
      = projN m c (row t ht r) (0 + j'.val) := fun j' => by
    rw [Nat.zero_add, ← proj_blk m c t ht r j'.val (by omega)]
    refine (q_at _ _ _ r j').trans ?_
    exact congrArg (fun f => Rows.proj _ _ f) (funext fun k => ld_q _ k j')
  rw [emb_q t ht]
  refine (rot_q _ _ _ r j).trans ?_
  rw [hT, hT, hT, blk_c m c t ht, blk_s m c t ht, entry_cos, entry_sin]
  refine (rope_wide _ (projN m c (row t ht r)) 1024 0 j.val j.isLt (by rfl)).trans ?_
  refine Eq.trans ?_ (Cert.InProjRefIdeal.Value.ref_q _ _ _ _ (row t ht r) j).symm
  simp only [Nat.zero_add]

/-- The stored keys are the reference's. -/
theorem point_k (c : Dev nD) (t : Fin cfg0.N) (r : Fin 256) (j : Fin 256) :
    k0_pay1 (F := Ideal) (k0_pay16 (k0_pay7 (iblk m c 4 t)))
        (k0_pay17 (k0_pay5 (iblk m c 0 t) (iblk m c 1 t)) (View.ld (iblk m c 2 t) r0_4))
        (k0_pay18 (k0_pay5 (iblk m c 0 t) (iblk m c 1 t)) (k0_pay6 (iblk m c 3 t)) (View.ld (iblk m c 2 t) r0_4)) (ix2 r j)
      = REFk m c (((cfg0.win 6).blk t).view.emb (ix2 r j)) := by
  have ht : t.val < 256 := t.isLt
  have hT : ∀ j' : Fin 256, k0_pay15 (F := Ideal) (k0_pay5 (iblk m c 0 t) (iblk m c 1 t)) (View.ld (iblk m c 2 t) r0_4) (ix2 r j')
      = projN m c (row t ht r) (1024 + j'.val) := fun j' => by
    rw [← proj_blk m c t ht r (1024 + j'.val) (by omega)]
    refine (k_at _ _ _ r j').trans ?_
    exact congrArg (fun f => Rows.proj _ _ f) (funext fun k => ld_k _ k j')
  rw [emb_k t ht]
  refine (rot_k _ _ _ _ r j).trans ?_
  rw [hT, hT, hT, blk_c m c t ht, blk_s m c t ht, entry_cos, entry_sin]
  refine (rope_wide _ (projN m c (row t ht r)) 256 1024 j.val j.isLt (by rfl)).trans ?_
  exact (Cert.InProjRefIdeal.Value.ref_k _ _ _ _ (row t ht r) j).symm

/-- The stored values are the reference's. -/
theorem point_v (c : Dev nD) (t : Fin cfg0.N) (r : Fin 256) (j : Fin 256) :
    k0_pay2 (F := Ideal) (k0_pay5 (iblk m c 0 t) (iblk m c 1 t)) (View.ld (iblk m c 2 t) r0_6) (ix2 r j)
      = REFv m c (((cfg0.win 7).blk t).view.emb (ix2 r j)) := by
  have ht : t.val < 256 := t.isLt
  rw [emb_v t ht]
  refine Eq.trans ?_ (Cert.InProjRefIdeal.Value.ref_v _ _ _ (row t ht r) j).symm
  refine Eq.trans ?_ (proj_blk m c t ht r (1280 + j.val) (by omega))
  refine (v_at _ _ _ r j).trans ?_
  exact congrArg (fun f => Rows.proj _ _ f) (funext fun k => ld_v _ k j)

/-- The stored projections of the recurrence are the reference's. -/
theorem point_p (c : Dev nD) (t : Fin cfg0.N) (r : Fin 256) (j : Fin 3328) :
    k0_pay3 (F := Ideal) (k0_pay5 (iblk m c 0 t) (iblk m c 1 t)) (View.ld (iblk m c 2 t) r0_7) (ix2 r j)
      = REFp m c (((cfg0.win 8).blk t).view.emb (ix2 r j)) := by
  have ht : t.val < 256 := t.isLt
  rw [emb_p t ht]
  refine Eq.trans ?_ (Cert.InProjRefIdeal.Value.ref_p _ _ _ (row t ht r) j).symm
  refine Eq.trans ?_ (proj_blk m c t ht r (1536 + j.val) (by omega))
  refine (p_at _ _ _ r j).trans ?_
  exact congrArg (fun f => Rows.proj _ _ f) (funext fun k => ld_p _ k j)

/-- The stored gates are the reference's. -/
theorem point_gates (c : Dev nD) (t : Fin cfg0.N) (r : Fin 256) (j : Fin 2048) :
    k0_pay4 (F := Ideal) (k0_pay5 (iblk m c 0 t) (iblk m c 1 t)) (View.ld (iblk m c 2 t) r0_9) (ix2 r j)
      = REFgates m c (((cfg0.win 9).blk t).view.emb (ix2 r j)) := by
  have ht : t.val < 256 := t.isLt
  rw [emb_gates t ht]
  refine Eq.trans ?_ (Cert.InProjRefIdeal.Value.ref_gates _ _ _ (row t ht r) j).symm
  refine Eq.trans ?_ (congrArg Rows.gate (proj_blk m c t ht r (4864 + j.val) (by omega)))
  refine (gates_at _ _ _ r j).trans ?_
  exact congrArg (fun f => Rows.gate (Rows.proj _ _ f)) (funext fun k => ld_gates _ k j)

/-- The array of queries after the run is the reference's. -/
theorem final_q (c : Dev nD) : (dats m 0 c).arrAt 5 (cfgs 0).N = REFq m c := by
  refine (dats m 0 c).arrAt_eq_of_covers 5 _ (by decide +kernel) fun t _ y => ?_
  blk_simp
  rw [after0_5]; frame_out
  rw [eq_ix2 y]
  exact point_q m c t (y 0) (y 1)

/-- The array of keys after the run is the reference's. -/
theorem final_k (c : Dev nD) : (dats m 0 c).arrAt 6 (cfgs 0).N = REFk m c := by
  refine (dats m 0 c).arrAt_eq_of_covers 6 _ (by decide +kernel) fun t _ y => ?_
  blk_simp
  rw [after0_6]; frame_out
  rw [rows_block, eq_ix2 y]
  exact point_k m c t (y 0) (y 1)

/-- The array of values after the run is the reference's. -/
theorem final_v (c : Dev nD) : (dats m 0 c).arrAt 7 (cfgs 0).N = REFv m c := by
  refine (dats m 0 c).arrAt_eq_of_covers 7 _ (by decide +kernel) fun t _ y => ?_
  blk_simp
  rw [after0_7]; frame_out
  rw [rows_block, eq_ix2 y]
  exact point_v m c t (y 0) (y 1)

/-- The array of the recurrence's projections after the run is the reference's. -/
theorem final_p (c : Dev nD) : (dats m 0 c).arrAt 8 (cfgs 0).N = REFp m c := by
  refine (dats m 0 c).arrAt_eq_of_covers 8 _ (by decide +kernel) fun t _ y => ?_
  blk_simp
  rw [after0_8]; frame_out
  rw [rows_block, eq_ix2 y]
  exact point_p m c t (y 0) (y 1)

/-- The array of gates after the run is the reference's. -/
theorem final_gates (c : Dev nD) : (dats m 0 c).arrAt 9 (cfgs 0).N = REFgates m c := by
  refine (dats m 0 c).arrAt_eq_of_covers 9 _ (by decide +kernel) fun t _ y => ?_
  blk_simp
  rw [after0_9]; frame_out
  rw [rows_block, eq_ix2 y]
  exact point_gates m c t (y 0) (y 1)

end Cert.InProjIdeal.Value

end
-- ==== Proof.InProj.Claim.lean ====
/- The claim about the layer's projections. -/
module

public import proofs.«01_k».proof.Defs
public import proofs.«01_k».proof.Proof.InProj.Value
public import proofs.«01_k».proof.Proof.Gen.InProjRefIdeal.Run

@[expose] public section

set_option maxRecDepth 16384

noncomputable section

namespace Cert.InProjIdeal.Value

open Idealize.ShloMosaic Idealize.SL.Sem

attribute [local instance] Cert.InProjIdeal.Gen.facts Cert.InProjRefIdeal.Gen.facts

set_option maxHeartbeats 2000000 in
/-- Over exact arithmetic the kernel ends with the queries, keys, values, recurrence projections and gates the
    reference computes. -/
theorem algebraic : Cert.algebraic_InProjIdeal_InProjRefIdeal := by
  pair_intro
  · run_from Cert.InProjIdeal.Gen.run_main m g
  · run_from Cert.InProjRefIdeal.Value.run m' g'
    · refine (Cert.InProjRefIdeal.Read.val_main_v104_eq m' c).trans ?_
      rw [(hagree c).1, (hagree c).2.1, (hagree c).2.2.1, (hagree c).2.2.2]
      exact (final_q m c).symm
    · refine (Cert.InProjRefIdeal.Read.val_main_v106_eq m' c).trans ?_
      rw [(hagree c).1, (hagree c).2.1, (hagree c).2.2.1, (hagree c).2.2.2]
      exact (final_k m c).symm
    · exact (final_v m c).symm
    · exact (final_p m c).symm
    · exact (final_gates m c).symm

end Cert.InProjIdeal.Value

end
-- ==== Proof.MemKv.Value.lean ====
/- The keys and values of the memory: what one block of the kernel computes, what the reference computes, and
   that the result array is the reference's. -/
module

public import proofs.«01_k».proof.Proof.Gen.MemKvIdeal.Frame
public import proofs.«01_k».proof.Proof.Gen.MemKvRefIdeal.Read
public import proofs.«01_k».proof.Proof.Rows
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKvIdeal.Value
open Cert.MemKvIdeal Cert.MemKvIdeal.Gen

/-- The keys and values of the memory as the reference computes them: the memory's rows normalised, times the
    key and value weights, the rows of all batches in one matrix. -/
abbrev REF (x : FVec Ideal S32x256x1024 .f32) (g : FVec Ideal S1x1024 .f32) (w : FVec Ideal S1x1024x1024 .f32) :
    FVec Ideal S8192x1024 .bf16 :=
  Cert.MemKvRefIdeal.Read.val_main_v17 (F := Ideal) x g w

/-- What the body stores at row `r`, column `j` of its block: the block's row normalised, times the column. -/
theorem pay_at (x : FVec Ideal S256x1024 .f32) (g : FVec Ideal S1x1024 .f32) (w : FVec Ideal S1024x1024 .bf16)
    (r : Fin 256) (j : Fin 1024) :
    k0_pay1 (F := Ideal) x g w (ix2 r j)
      = Rows.proj (fun k => x (ix2 r k)) (fun k => g (ix2 0 k)) (fun k => w (ix2 k j)) := by
  pointwise [k0_pay1, Rows.proj, Rows.norm, Rows.rinv]

open Cert.MemKvRefIdeal.Read in
/-- What the reference computes at row `256 b + r`, column `j`: row `r` of batch `b` normalised, times the
    column. -/
theorem ref_at (x : FVec Ideal S32x256x1024 .f32) (g : FVec Ideal S1x1024 .f32) (w : FVec Ideal S1x1024x1024 .f32)
    (n : Fin 8192) (j : Fin 1024) :
    REF x g w (ix2 n j)
      = Rows.proj (fun k => x (ix3 (⟨n / 256, by omega⟩ : Fin 32) (⟨n % 256, by omega⟩ : Fin 256) k)) (fun k => g (ix2 0 k))
          (fun k => w (ix3 0 k j)) := by
  pointwise [REF, Rows.proj, Rows.norm, Rows.rinv, val_main_v17, val_main_v16, val_main_v15, val_main_v14, val_main_v13, val_main_v12,
    val_main_v11, val_main_v10, val_main_v9, val_main_v8, val_main_v7, val_main_v6, val_main_v5, val_main_v4,
    val_main_v3, val_main_v2, val_main_v1, val_main_v0, val_main_cst, val_main_cst_0, val_main_cst_1]

variable (m : (ℓ : Loc nD τ sig) → Buf (Elt Ideal) ℓ)

/-- Where each window's block lies at grid point `t`: the rows advance block by block, the gain and the weights
    are whole. -/
theorem idx : ∀ t : Fin cfg0.N, win0_0.index t = ![t.val, 0] ∧ win0_1.index t = ![0, 0] ∧
    win0_2.index t = ![0, 0] ∧ win0_3.index t = ![t.val, 0] :=
  (by decide +kernel : ∀ t : Fin grid0.N, _)

/-- The memory as the kernel reads it: the batches' rows in one matrix. -/
theorem entry_x (c : Dev nD) (n : Fin 8192) (k : Fin 1024) :
    V m c main_v0 (ix2 n k) = m ((c : Thread nD τ).loc main_arg0)
      (ix3 (⟨n / 256, by omega⟩ : Fin 32) (⟨n % 256, by omega⟩ : Fin 256) k) := by
  entry_read
  pointwise

/-- The gain as the kernel reads it. -/
theorem entry_g (c : Dev nD) (k : Fin 1024) :
    V m c main_v4 (ix2 (0 : Fin 1) k) = m ((c : Thread nD τ).loc main_arg1) (ix2 (0 : Fin 1) k) := by
  entry_read
  pointwise

/-- The weights as the kernel reads them. -/
theorem entry_w (c : Dev nD) (k j : Fin 1024) :
    V m c main_v3 (ix2 k j) = m ((c : Thread nD τ).loc main_arg2) (ix3 (0 : Fin 1) k j) := by
  entry_read
  pointwise

/-- The block of rows of grid point `t` is rows `256 t` and on of the matrix the kernel reads. -/
theorem blk_x (c : Dev nD) (t : Fin cfg0.N) (ht : t.val < 32) (r : Fin 256) (k : Fin 1024) :
    iblk m c 0 t (ix2 r k) = V m c main_v0 (ix2 (⟨t.val * 256 + r.val, by omega⟩ : Fin 8192) k) := by
  unfold iblk
  generalize V m c main_v0 = X
  blk_ext [idx t]

/-- The block of the gain is the gain. -/
theorem blk_g (c : Dev nD) (t : Fin cfg0.N) (k : Fin 1024) :
    iblk m c 1 t (ix2 (0 : Fin 1) k) = V m c main_v4 (ix2 (0 : Fin 1) k) := by
  unfold iblk
  generalize V m c main_v4 = X
  blk_ext [idx t]

/-- The block of the weights is the weights. -/
theorem blk_w (c : Dev nD) (t : Fin cfg0.N) (k j : Fin 1024) :
    iblk m c 2 t (ix2 k j) = V m c main_v3 (ix2 k j) := by
  unfold iblk
  generalize V m c main_v3 = X
  blk_ext [idx t]

/-- Where the result's block of grid point `t` lies in the result. -/
theorem emb_out (t : Fin cfg0.N) (ht : t.val < 32) (r : Fin 256) (j : Fin 1024) :
    ((cfg0.win 3).blk t).view.emb (ix2 r j) = ix2 (⟨t.val * 256 + r.val, by omega⟩ : Fin 8192) j := by
  blk_ext [idx t]

/-- What the body stores at an index of grid point `t`'s block is the reference at the array index the block
    places it at. -/
theorem point (c : Dev nD) (t : Fin cfg0.N) (r : Fin 256) (j : Fin 1024) :
    k0_pay1 (F := Ideal) (iblk m c 0 t) (iblk m c 1 t) (iblk m c 2 t) (ix2 r j)
      = REF (m ((c : Thread nD τ).loc main_arg0)) (m ((c : Thread nD τ).loc main_arg1))
          (m ((c : Thread nD τ).loc main_arg2)) (((cfg0.win 3).blk t).view.emb (ix2 r j)) := by
  have ht : t.val < 32 := t.isLt
  rw [emb_out t ht, ref_at]
  refine (pay_at _ _ _ r j).trans ?_
  congr 1
  · funext k
    rw [blk_x m c t ht, entry_x]
  · funext k
    rw [blk_g, entry_g]
  · funext k
    rw [blk_w, entry_w]

/-- The result array after the run is the reference's. -/
theorem final (c : Dev nD) : (dats m 0 c).arrAt 3 (cfgs 0).N
    = REF (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  rw [eq_ix2 y]
  exact point m c t (y 0) (y 1)

end Cert.MemKvIdeal.Value

end
-- ==== Proof.MemKv.Claim.lean ====
/- The claims about the keys and values of the memory. -/
module

public import proofs.«01_k».proof.Defs
public import proofs.«01_k».proof.Proof.MemKv.Value
public import proofs.«01_k».proof.Proof.Gen.MemKvRefIdeal.Run

@[expose] public section

set_option maxRecDepth 16384

noncomputable section

namespace Cert.MemKvIdeal.Value

open Idealize.ShloMosaic Idealize.SL.Sem

attribute [local instance] Cert.MemKvIdeal.Gen.facts Cert.MemKvRefIdeal.Gen.facts

/-- Over exact arithmetic the kernel ends with the keys and values the reference computes. -/
theorem algebraic : Cert.algebraic_MemKvIdeal_MemKvRefIdeal := by
  pair_intro
  · run_from Cert.MemKvIdeal.Gen.run_main m g
  · run_from Cert.MemKvRefIdeal.Value.run m' g'
    exact (final m c).symm

end Cert.MemKvIdeal.Value

end
-- ==== Proof.Post.Rows.lean ====
/- What follows the mixers, row by row: the mathematics of both programs, and that it agrees on real numbers. -/
module

public import proofs.«01_k».proof.Proof.Rows
public import proofs.«01_k».proof.Proof.Finite
public import Idealize.ShloMosaic.PureOps.Ideal

@[expose] public section

noncomputable section

open Idealize.ShloMosaic
open Cert.Finite (Real')

namespace Cert.After

/-- The residual plus the projection of the two gated mixers. -/
def mixed (x a w ga gw : Fin 1024 → EReal) (o : Fin 1024 → Fin 1024 → EReal) (d : Fin 1024) : EReal :=
  x d + ∑ e, (ga e * a e + gw e * w e) * o e d

/-- The largest score. -/
def peak (s : Fin 256 → EReal) : EReal := Finset.univ.fold max (Ideal.ofBits .f32 0xFF800000#32) s

/-- The weight of a score before the normalisation. -/
def weight (s : Fin 256 → EReal) (x : Fin 256) : EReal := Ideal.exp (s x - peak s)

/-- The attention that normalises after the product with the values. -/
def after (s v : Fin 256 → EReal) : EReal :=
  (∑ x, weight s x * v x) * Ideal.div (Ideal.ofBits .f32 0x3F800000#32) (∑ x, weight s x)

/-- The attention that normalises the weights first. -/
def before (s v : Fin 256 → EReal) : EReal := ∑ x, Ideal.div (weight s x) (∑ x, weight s x) * v x

/-- The scale of the scores. -/
abbrev scale : EReal := Ideal.ofBits .f32 0x3DB504F3#32

/-- A score whose query is scaled. -/
def scaled (q k : Fin 128 → EReal) : EReal := ∑ d, q d * scale * k d

/-- A score that is scaled. -/
def score (q k : Fin 128 → EReal) : EReal := (∑ d, q d * k d) * scale

/-- The residual plus the projection of the attended values. -/
def added (h : Fin 1024 → EReal) (a : Fin 512 → EReal) (o : Fin 512 → Fin 1024 → EReal) (d : Fin 1024) : EReal :=
  h d + ∑ j, a j * o j d

/-- The product of a key and a query, each split in its rounded part and the rest. -/
def split (k q : Fin 128 → EReal) : EReal :=
  (∑ d, k d * q d) + (∑ d, k d * (q d - q d)) + ∑ d, (k d - k d) * q d

/-! ## Real numbers -/

/-- A sum of numbers is the same sum of extended reals. -/
theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- The sum of two real numbers is real. -/
theorem add_real {x y : EReal} (hx : Real' x) (hy : Real' y) : Real' (x + y) := by
  obtain ⟨a, rfl⟩ := hx
  obtain ⟨b, rfl⟩ := hy
  exact ⟨a + b, (EReal.coe_add a b).symm⟩

/-- The product of two real numbers is real. -/
theorem mul_real {x y : EReal} (hx : Real' x) (hy : Real' y) : Real' (x * y) := by
  obtain ⟨a, rfl⟩ := hx
  obtain ⟨b, rfl⟩ := hy
  exact ⟨a * b, (EReal.coe_mul a b).symm⟩

/-- A sum of real numbers is real. -/
theorem sum_real {n : ℕ} {f : Fin n → EReal} (h : ∀ j, Real' (f j)) : Real' (∑ j, f j) := by
  choose g hg using h
  exact ⟨∑ j, g j, by rw [coe_sum]; exact Finset.sum_congr rfl fun j _ => hg j⟩

/-- A real number less itself is zero. -/
theorem sub_self {x : EReal} (h : Real' x) : x - x = 0 := by
  obtain ⟨a, rfl⟩ := h
  rw [← EReal.coe_sub, _root_.sub_self, EReal.coe_zero]

/-- The words of one. -/
theorem one_word : Ideal.ofBits .f32 0x3F800000#32 = 1 := by
  simp [Ideal.ofBits, Ideal.ieee, -EReal.coe_mul]
  norm_num

/-- The word of −∞. -/
theorem neg_inf : Ideal.ofBits .f32 0xFF800000#32 = ⊥ := by
  simp [Ideal.ofBits, Ideal.ieee]

/-- The scale is a positive number. -/
theorem scale_real : ∃ r : ℝ, 0 ≤ r ∧ scale = r := by
  refine ⟨11863283 / 134217728, by norm_num, ?_⟩
  simp [scale, Ideal.ofBits, Ideal.ieee, -EReal.coe_mul]
  norm_num

/-- A number that is not negative distributes over a sum of extended reals. -/
theorem sum_mul {n : ℕ} (f : Fin n → EReal) (c : ℝ) (hc : 0 ≤ c) (t : Finset (Fin n)) :
    (∑ j ∈ t, f j) * (c : EReal) = ∑ j ∈ t, f j * (c : EReal) := by
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- The scale may be taken to the queries or to the scores. -/
theorem scaled_eq (q k : Fin 128 → EReal) : scaled q k = score q k := by
  obtain ⟨c, hc, hs⟩ := scale_real
  unfold scaled score
  rw [hs, sum_mul _ c hc]
  exact Finset.sum_congr rfl fun d _ => mul_right_comm _ _ _

/-- A score of real numbers is real. -/
theorem score_real (q k : Fin 128 → EReal) (hq : ∀ d, Real' (q d)) (hk : ∀ d, Real' (k d)) : Real' (score q k) :=
  mul_real (sum_real fun d => mul_real (hq d) (hk d)) (scale_real.imp fun _ h => h.2)

/-- The largest of real scores is real. -/
theorem peak_real (s : Fin 256 → EReal) (hs : ∀ x, Real' (s x)) : Real' (peak s) := by
  have h : ∀ t : Finset (Fin 256), t = ∅ ∨ Real' (t.fold max (⊥ : EReal) s) := by
    intro t
    induction t using Finset.induction_on with
    | empty => exact Or.inl rfl
    | insert a t ha ih =>
      refine Or.inr ?_
      rw [Finset.fold_insert ha]
      rcases ih with rfl | ih
      · simpa using hs a
      · rcases max_choice (s a) (t.fold max ⊥ s) with h | h <;> rw [h]
        · exact hs a
        · exact ih
  unfold peak
  rw [neg_inf]
  refine (h Finset.univ).resolve_left fun e => ?_
  exact absurd (e ▸ Finset.mem_univ (0 : Fin 256)) (Finset.notMem_empty _)

/-- A real score's weight is a positive number. -/
theorem weight_real (s : Fin 256 → EReal) (hs : ∀ x, Real' (s x)) (x : Fin 256) : ∃ w : ℝ, 0 < w ∧ weight s x = w := by
  obtain ⟨p, hp⟩ := peak_real s hs
  obtain ⟨a, ha⟩ := hs x
  refine ⟨Real.exp (a - p), Real.exp_pos _, ?_⟩
  unfold weight
  rw [hp, ha, ← EReal.coe_sub]
  rfl

/-- The sum of the weights of real scores is a positive number. -/
theorem total_real (s : Fin 256 → EReal) (hs : ∀ x, Real' (s x)) : ∃ l : ℝ, 0 < l ∧ ∑ x, weight s x = l := by
  choose w hw0 hw using weight_real s hs
  refine ⟨∑ x, w x, Finset.sum_pos (fun x _ => hw0 x) ⟨0, Finset.mem_univ _⟩, ?_⟩
  rw [coe_sum]
  exact Finset.sum_congr rfl fun x _ => hw x

/-- The two orders of normalisation agree on real scores. -/
theorem after_eq (s v : Fin 256 → EReal) (hs : ∀ x, Real' (s x)) : after s v = before s v := by
  obtain ⟨l, hl, hl'⟩ := total_real s hs
  unfold after before
  rw [hl', one_word, Ideal.div_coe hl.ne', one_mul, sum_mul _ _ (one_div_pos.mpr hl).le]
  refine Finset.sum_congr rfl fun x _ => ?_
  rw [Ideal.div_coe hl.ne', mul_right_comm]

/-- Attended real values are real. -/
theorem before_real (s v : Fin 256 → EReal) (hs : ∀ x, Real' (s x)) (hv : ∀ x, Real' (v x)) : Real' (before s v) := by
  obtain ⟨l, hl, hl'⟩ := total_real s hs
  unfold before
  rw [hl']
  refine sum_real fun x => mul_real ?_ (hv x)
  rw [Ideal.div_coe hl.ne']
  obtain ⟨w, _, hw⟩ := weight_real s hs x
  exact mul_real ⟨w, hw⟩ ⟨_, rfl⟩

/-- The reciprocal root mean square of a real row is real. -/
theorem rinv_real (x : Fin 1024 → EReal) (hx : ∀ k, Real' (x k)) : Real' (Rows.rinv x) := by
  choose a ha using hx
  have h1 : ∃ r : ℝ, 0 < r ∧ Ideal.ofBits .f32 0x44800000#32 = r :=
    ⟨1024, by norm_num, by simp [Ideal.ofBits, Ideal.ieee, -EReal.coe_mul]; try norm_num⟩
  have h2 : ∃ r : ℝ, 0 < r ∧ Ideal.ofBits .f32 0x3727C5AC#32 = r :=
    ⟨10995116 / 2 ^ 40, by norm_num, by simp [Ideal.ofBits, Ideal.ieee, -EReal.coe_mul]; try norm_num⟩
  obtain ⟨n, hn, hn'⟩ := h1
  obtain ⟨e, he, he'⟩ := h2
  have hs : ∑ k, x k * x k = ((∑ k, a k * a k : ℝ) : EReal) := by
    rw [coe_sum]
    exact Finset.sum_congr rfl fun k _ => by rw [ha k, EReal.coe_mul]
  have hp : 0 < (∑ k, a k * a k) * (1 / n) + e :=
    add_pos_of_nonneg_of_pos (mul_nonneg (Finset.sum_nonneg fun k _ => mul_self_nonneg _) (by positivity)) he
  unfold Rows.rinv
  rw [hs, hn', he', Ideal.div_coe hn.ne', ← EReal.coe_mul, ← EReal.coe_add]
  generalize (∑ k, a k * a k) * (1 / n) + e = y at hp
  refine ⟨(Real.sqrt y)⁻¹, ?_⟩
  show (if y < 0 then ⊥ else if y = 0 then ⊤ else (((Real.sqrt y)⁻¹ : ℝ) : EReal)) = _
  rw [if_neg hp.not_gt, if_neg hp.ne']

/-- The normalised row of real numbers times a real column is real. -/
theorem proj_real (x g w : Fin 1024 → EReal) (hx : ∀ k, Real' (x k)) (hg : ∀ k, Real' (g k)) (hw : ∀ k, Real' (w k)) :
    Real' (Rows.proj x g w) :=
  sum_real fun k => mul_real (mul_real (mul_real (hx k) (rinv_real x hx)) (hg k)) (hw k)

/-- The residual with the gated mixers is real where they are. -/
theorem mixed_real (x a w ga gw : Fin 1024 → EReal) (o : Fin 1024 → Fin 1024 → EReal) (hx : ∀ k, Real' (x k))
    (ha : ∀ k, Real' (a k)) (hw : ∀ k, Real' (w k)) (hga : ∀ k, Real' (ga k)) (hgw : ∀ k, Real' (gw k))
    (ho : ∀ k d, Real' (o k d)) (d : Fin 1024) : Real' (mixed x a w ga gw o d) :=
  add_real (hx d) (sum_real fun e => mul_real (add_real (mul_real (hga e) (ha e)) (mul_real (hgw e) (hw e))) (ho e d))

/-- The residual with the attended values is real where they are. -/
theorem added_real (h : Fin 1024 → EReal) (a : Fin 512 → EReal) (o : Fin 512 → Fin 1024 → EReal) (hh : ∀ d, Real' (h d))
    (ha : ∀ j, Real' (a j)) (ho : ∀ j d, Real' (o j d)) (d : Fin 1024) : Real' (added h a o d) :=
  add_real (hh d) (sum_real fun j => mul_real (ha j) (ho j d))

/-- Of real numbers the rests are zero, and the split product is the product. -/
theorem split_eq (k q : Fin 128 → EReal) (hk : ∀ d, Real' (k d)) (hq : ∀ d, Real' (q d)) : split k q = ∑ d, k d * q d := by
  have h1 : ∑ d, k d * (q d - q d) = 0 := Finset.sum_eq_zero fun d _ => by rw [sub_self (hq d), mul_zero]
  have h2 : ∑ d, (k d - k d) * q d = 0 := Finset.sum_eq_zero fun d _ => by rw [sub_self (hk d), zero_mul]
  unfold split
  rw [h1, h2, add_zero, add_zero]

end Cert.After

end
-- ==== Proof.Post.Row.lean ====
/- What follows the mixers: everything that one row of the results is computed from, and its steps in the order of the
   kernel and in the order of the reference. -/
module

public import proofs.«01_k».proof.Proof.Post.Rows

@[expose] public section

noncomputable section

open Idealize.ShloMosaic
open Cert.Finite (Real')

namespace Cert.After

/-- What one row of the results is computed from: the row `x`, its attention `a`, its recurrence `w`, the gates `ga` and
    `gw` of the two, their projection `o`; the gain `g` and the weights `q` of the queries of the memory; the memory's keys
    `k` and values `v`, row by row, and the projection `p` of what is attended; the gain `g'` and the weights `s` of the
    queries of the sub-keys. -/
structure Row where
  x : Fin 1024 → EReal
  a : Fin 1024 → EReal
  w : Fin 1024 → EReal
  ga : Fin 1024 → EReal
  gw : Fin 1024 → EReal
  o : Fin 1024 → Fin 1024 → EReal
  g : Fin 1024 → EReal
  q : Fin 1024 → Fin 512 → EReal
  k : Fin 256 → Fin 512 → EReal
  v : Fin 256 → Fin 512 → EReal
  p : Fin 512 → Fin 1024 → EReal
  g' : Fin 1024 → EReal
  s : Fin 1024 → Fin 2048 → EReal

/-- The lanes of the head that column `j` belongs to. -/
def lane (f : Fin 512 → EReal) (j : Fin 512) (d : Fin 128) : EReal := f ⟨j.val / 128 * 128 + d.val, by omega⟩

namespace Row

/-- Every number is real. -/
structure Reals (R : Row) : Prop where
  x : ∀ i, Real' (R.x i)
  a : ∀ i, Real' (R.a i)
  w : ∀ i, Real' (R.w i)
  ga : ∀ i, Real' (R.ga i)
  gw : ∀ i, Real' (R.gw i)
  o : ∀ i j, Real' (R.o i j)
  g : ∀ i, Real' (R.g i)
  q : ∀ i j, Real' (R.q i j)
  k : ∀ i j, Real' (R.k i j)
  v : ∀ i j, Real' (R.v i j)
  p : ∀ i j, Real' (R.p i j)
  g' : ∀ i, Real' (R.g' i)
  s : ∀ i j, Real' (R.s i j)

variable (R : Row)

/-- The residual with the gated mixers. -/
def res (d : Fin 1024) : EReal := mixed R.x R.a R.w R.ga R.gw R.o d

/-- The queries of the memory. -/
def query (j : Fin 512) : EReal := Rows.proj R.res R.g (fun k => R.q k j)

/-- What is attended, in the reference's order. -/
def attended (j : Fin 512) : EReal :=
  before (fun x => score (lane R.query j) (lane (R.k x) j)) (fun x => R.v x j)

/-- What is attended, in the kernel's order. -/
def late (j : Fin 512) : EReal :=
  after (fun x => scaled (lane R.query j) (lane (R.k x) j)) (fun x => R.v x j)

/-- The residual with what is attended, in the reference's order. -/
def hidden (d : Fin 1024) : EReal := added R.res R.attended R.p d

/-- The residual with what is attended, in the kernel's order. -/
def hiddenLate (d : Fin 1024) : EReal := added R.res R.late R.p d

/-- The queries of the sub-keys. -/
def sub (j : Fin 2048) : EReal := Rows.proj R.hidden R.g' (fun k => R.s k j)

/-- The queries of the sub-keys, in the kernel's order. -/
def subLate (j : Fin 2048) : EReal := Rows.proj R.hiddenLate R.g' (fun k => R.s k j)

variable {R} (h : R.Reals)
include h

/-- The residual with the gated mixers is real. -/
theorem res_real (d : Fin 1024) : Real' (R.res d) := mixed_real _ _ _ _ _ _ h.x h.a h.w h.ga h.gw h.o d

/-- The queries of the memory are real. -/
theorem query_real (j : Fin 512) : Real' (R.query j) := proj_real _ _ _ (res_real h) h.g fun k => h.q k j

/-- The scores are real. -/
theorem scores_real (j : Fin 512) (x : Fin 256) : Real' (score (lane R.query j) (lane (R.k x) j)) :=
  score_real _ _ (fun _ => query_real h _) fun _ => h.k x _

/-- Both orders attend the same. -/
theorem late_eq : R.late = R.attended := by
  funext j
  unfold late attended
  simp only [scaled_eq]
  exact after_eq _ _ (scores_real h j)

/-- Both orders give the same residual. -/
theorem hiddenLate_eq : R.hiddenLate = R.hidden := by
  funext d
  unfold hiddenLate hidden
  rw [late_eq h]

/-- The residual is real. -/
theorem hidden_real (d : Fin 1024) : Real' (R.hidden d) :=
  added_real _ _ _ (res_real h) (fun j => before_real _ _ (scores_real h j) fun x => h.v x j) h.p d

/-- Both orders give the same queries of the sub-keys. -/
theorem subLate_eq : R.subLate = R.sub := by
  funext j
  unfold subLate sub
  rw [hiddenLate_eq h]

/-- The queries of the sub-keys are real. -/
theorem sub_real (j : Fin 2048) : Real' (R.sub j) := proj_real _ _ _ (hidden_real h) h.g' fun k => h.s k j

end Row

end Cert.After

end
-- ==== Proof.Post.Kernel.lean ====
/- What follows the mixers: what the kernel computes of a block of rows. -/
module

public import proofs.«01_k».proof.Proof.Gen.PostIdeal.Frame
public import proofs.«01_k».proof.Proof.Post.Row
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PostIdeal.Value
open Cert.PostIdeal Cert.PostIdeal.Gen

/-- The residual with the gated mixers, at row `r` and column `d` of a block. -/
theorem mixed_at (ga gw a w : Vec Ideal S256x1024 .bf16) (x : Vec Ideal S256x1024 .f32) (o : Vec Ideal S1024x1024 .bf16)
    (r : Fin 256) (d : Fin 1024) :
    k0_pay2 (F := Ideal) ga gw a w x o (ix2 r d)
      = After.mixed (fun k => x (ix2 r k)) (fun k => a (ix2 r k)) (fun k => w (ix2 r k)) (fun k => ga (ix2 r k))
          (fun k => gw (ix2 r k)) (fun k d => o (ix2 k d)) d := by
  pointwise [k0_pay2, After.mixed]

/-- The queries of the memory: the normalised rows times the weights. -/
theorem query_at (ga gw a w : Vec Ideal S256x1024 .bf16) (x : Vec Ideal S256x1024 .f32) (o : Vec Ideal S1024x1024 .bf16)
    (g : Vec Ideal S1x1024 .f32) (q : Vec Ideal S1024x512 .bf16) (r : Fin 256) (j : Fin 512) :
    k0_pay3 (F := Ideal) ga gw a w x o g q (ix2 r j)
      = Rows.proj (fun k => k0_pay2 (F := Ideal) ga gw a w x o (ix2 r k)) (fun k => g (ix2 0 k)) (fun k => q (ix2 k j)) := by
  unfold k0_pay3
  generalize k0_pay2 (F := Ideal) ga gw a w x o = X
  pointwise [Rows.proj, Rows.norm, Rows.rinv]

/-- The scores of one head: column `o` on of the queries, scaled, times the keys. -/
def scores (q : FVec Ideal S256x512 .f32) (k : Vec Ideal S256x128 .bf16) (o : ℕ) (ho : o + 128 ≤ 512) (r x : Fin 256) : EReal :=
  After.scaled (fun d => q (ix2 r (⟨o + d.val, by omega⟩ : Fin 512))) (fun d => k (ix2 x d))

/-- The weights of the first head. -/
theorem weight0 (q : FVec Ideal S256x512 .f32) (k : Vec Ideal S256x128 .bf16) (r x : Fin 256) :
    k0_pay5 (F := Ideal) q (Scalar.ofBits .f32 0x3DB504F3#32) k (ix2 r x)
      = After.weight (scores q k 0 (by decide) r) x := by
  pointwise [k0_pay5, k0_pay4, After.weight, After.peak, scores, After.scaled]

/-- The weights of the second head. -/
theorem weight1 (q : FVec Ideal S256x512 .f32) (k : Vec Ideal S256x128 .bf16) (r x : Fin 256) :
    k0_pay6 (F := Ideal) q (Scalar.ofBits .f32 0x3DB504F3#32) k (ix2 r x)
      = After.weight (scores q k 128 (by decide) r) x := by
  pointwise [k0_pay6, k0_pay4, After.weight, After.peak, scores, After.scaled]

/-- The weights of the third head. -/
theorem weight2 (q : FVec Ideal S256x512 .f32) (k : Vec Ideal S256x128 .bf16) (r x : Fin 256) :
    k0_pay7 (F := Ideal) q (Scalar.ofBits .f32 0x3DB504F3#32) k (ix2 r x)
      = After.weight (scores q k 256 (by decide) r) x := by
  pointwise [k0_pay7, k0_pay4, After.weight, After.peak, scores, After.scaled]

/-- The weights of the fourth head. -/
theorem weight3 (q : FVec Ideal S256x512 .f32) (k : Vec Ideal S256x128 .bf16) (r x : Fin 256) :
    k0_pay8 (F := Ideal) q (Scalar.ofBits .f32 0x3DB504F3#32) k (ix2 r x)
      = After.weight (scores q k 384 (by decide) r) x := by
  pointwise [k0_pay8, k0_pay4, After.weight, After.peak, scores, After.scaled]

/-- Of four numbers the one of head `j / 128`. -/
def four (a b c d : EReal) (j : ℕ) : EReal := if j < 128 then a else if j < 256 then b else if j < 384 then c else d

/-- The residual with the attended values, the weights of the four heads and the values over variables. -/
theorem added_at (h : FVec Ideal S256x1024 .f32) (e0 e1 e2 e3 : FVec Ideal S256x256 .f32) (i0 t1 : FVec Ideal S256x1 .f32)
    (v0 v1 v2 v3 : Vec Ideal S256x128 .bf16) (o : Vec Ideal S512x1024 .bf16) (r : Fin 256) (d : Fin 1024) :
    k0_pay11 (F := Ideal) h e0 e1 e2 e3 i0 t1 v0 v1 v2 v3 o (ix2 r d)
      = h (ix2 r d) + ∑ j : Fin 512, four
          ((∑ x, e0 (ix2 r x) * v0 (ix2 x (⟨j.val % 128, by omega⟩ : Fin 128))) * i0 (ix2 r 0))
          ((∑ x, e1 (ix2 r x) * v1 (ix2 x (⟨j.val % 128, by omega⟩ : Fin 128)))
            * Ideal.div (Ideal.ofBits .f32 0x3F800000#32) (t1 (ix2 r 0)))
          ((∑ x, e2 (ix2 r x) * v2 (ix2 x (⟨j.val % 128, by omega⟩ : Fin 128)))
            * Ideal.div (Ideal.ofBits .f32 0x3F800000#32) (∑ x, e2 (ix2 r x)))
          ((∑ x, e3 (ix2 r x) * v3 (ix2 x (⟨j.val % 128, by omega⟩ : Fin 128)))
            * Ideal.div (Ideal.ofBits .f32 0x3F800000#32) (∑ x, e3 (ix2 r x))) j.val * o (ix2 j d) := by
  pointwise [k0_pay11]
  refine congrArg (h _ + ·) (Finset.sum_congr rfl fun j _ => congrArg (· * _) ?_)
  have hj : j.val < 512 := j.isLt
  unfold four
  by_cases h1 : j.val < 128
  · rw [dif_pos h1, if_pos h1]
    simp only [Nat.mod_eq_of_lt h1]
  by_cases h2 : j.val < 256
  · have e : j.val % 128 = j.val - 128 := by omega
    rw [dif_neg h1, dif_pos (by omega), if_neg h1, if_pos h2]
    simp only [e]
  by_cases h3 : j.val < 384
  · have e : j.val % 128 = j.val - 128 - 128 := by omega
    rw [dif_neg h1, dif_neg (by omega), dif_pos (by omega), if_neg h1, if_neg h2, if_pos h3]
    simp only [e]
  · have e : j.val % 128 = j.val - 128 - 128 - 128 := by omega
    rw [dif_neg h1, dif_neg (by omega), dif_neg (by omega), if_neg h1, if_neg h2, if_neg h3]
    simp only [e]

/-- The inverse of the first head's total. -/
theorem inverse0 (q : FVec Ideal S256x512 .f32) (k : Vec Ideal S256x128 .bf16) (r : Fin 256) :
    k0_pay9 (F := Ideal) q (Scalar.ofBits .f32 0x3DB504F3#32) k (ix2 r 0)
      = Ideal.div (Ideal.ofBits .f32 0x3F800000#32) (∑ x, After.weight (scores q k 0 (by decide) r) x) := by
  simp only [← weight0]
  unfold k0_pay9
  generalize k0_pay5 (F := Ideal) q (Scalar.ofBits .f32 0x3DB504F3#32) k = X
  pointwise

/-- The total of the second head. -/
theorem total1 (q : FVec Ideal S256x512 .f32) (k : Vec Ideal S256x128 .bf16) (r : Fin 256) :
    k0_pay10 (F := Ideal) q (Scalar.ofBits .f32 0x3DB504F3#32) k (ix2 r 0)
      = ∑ x, After.weight (scores q k 128 (by decide) r) x := by
  simp only [← weight1]
  unfold k0_pay10
  generalize k0_pay6 (F := Ideal) q (Scalar.ofBits .f32 0x3DB504F3#32) k = X
  pointwise

/-- The queries of the sub-keys: the normalised rows times the weights. -/
theorem subquery_at (h : FVec Ideal S256x1024 .f32) (g : Vec Ideal S1x1024 .f32) (w : Vec Ideal S1024x2048 .bf16)
    (r : Fin 256) (j : Fin 2048) :
    k0_pay12 (F := Ideal) h g w (ix2 r j)
      = Rows.proj (fun k => h (ix2 r k)) (fun k => g (ix2 0 k)) (fun k => w (ix2 k j)) := by
  pointwise [k0_pay12, Rows.proj, Rows.norm, Rows.rinv]

/-- What row `r` of a block is computed from. -/
def blkRow (x0 : Vec Ideal S256x1024 .f32) (x1 x2 : Vec Ideal S256x1024 .bf16) (x3 : Vec Ideal S256x2048 .bf16)
    (x4 : Vec Ideal S256x1024 .bf16) (x5 : Vec Ideal S1024x1024 .bf16) (x6 : Vec Ideal S1x1024 .f32)
    (x7 : Vec Ideal S1024x512 .bf16) (x8 : Vec Ideal S512x1024 .bf16) (x9 : Vec Ideal S1x1024 .f32)
    (x10 : Vec Ideal S1024x2048 .bf16) (r : Fin 256) : After.Row where
  x k := x0 (ix2 r k)
  a k := x1 (ix2 r k)
  w k := x2 (ix2 r k)
  ga k := x3 (ix2 r (⟨0 + k.val, by omega⟩ : Fin 2048))
  gw k := x3 (ix2 r (⟨1024 + k.val, by omega⟩ : Fin 2048))
  o e d := x5 (ix2 e d)
  g k := x6 (ix2 0 k)
  q k j := x7 (ix2 k j)
  k x j := x4 (ix2 x (⟨j.val, by omega⟩ : Fin 1024))
  v x j := x4 (ix2 x (⟨512 + j.val, by omega⟩ : Fin 1024))
  p j d := x8 (ix2 j d)
  g' k := x9 (ix2 0 k)
  s k j := x10 (ix2 k j)

/-- 1024 columns of a block of gates. -/
theorem ld_gate (X : (⟨S256x2048, .bf16⟩ : BufTy).Contents (Elt Ideal)) (o : ℕ)
    (h : ∀ a, (![0, o] : Fin 2 → ℕ) a + (![256, 1024] : Fin 2 → ℕ) a ≤ S256x2048.size a)
    (ho : o + 1024 ≤ 2048) (r : Fin 256) (k : Fin 1024) :
    View.ld X (Rect.unit ![0, o] ![256, 1024] h) (ix2 r k) = X (ix2 r (⟨o + k.val, by omega⟩ : Fin 2048)) := by
  refine congrArg X (funext fun a => Fin.ext ?_)
  match a with
  | 0 => exact (by omega : 0 + 1 * r.val = r.val)
  | 1 => exact (by omega : o + 1 * k.val = o + k.val)

/-- 128 columns of a block of keys and values. -/
theorem ld_head (X : (⟨S256x1024, .bf16⟩ : BufTy).Contents (Elt Ideal)) (o : ℕ)
    (h : ∀ a, (![0, o] : Fin 2 → ℕ) a + (![256, 128] : Fin 2 → ℕ) a ≤ S256x1024.size a)
    (ho : o + 128 ≤ 1024) (r : Fin 256) (k : Fin 128) :
    View.ld X (Rect.unit ![0, o] ![256, 128] h) (ix2 r k) = X (ix2 r (⟨o + k.val, by omega⟩ : Fin 1024)) := by
  refine congrArg X (funext fun a => Fin.ext ?_)
  match a with
  | 0 => exact (by omega : 0 + 1 * r.val = r.val)
  | 1 => exact (by omega : o + 1 * k.val = o + k.val)

/-- What head `n` attends, over the queries and the head's keys and values, is what the row attends in the head's columns. -/
theorem head_eq (R : After.Row) (q : FVec Ideal S256x512 .f32) (k v : Vec Ideal S256x128 .bf16) (n : ℕ) (hn : n < 4)
    (r : Fin 256) (hq : ∀ j, q (ix2 r j) = R.query j)
    (hk : ∀ x (d : Fin 128), k (ix2 x d) = R.k x (⟨n * 128 + d.val, by omega⟩ : Fin 512))
    (hv : ∀ x (d : Fin 128), v (ix2 x d) = R.v x (⟨n * 128 + d.val, by omega⟩ : Fin 512)) (o : ℕ) (ho : o + 128 ≤ 512)
    (e : o = n * 128) (j : Fin 512) (hj : j.val / 128 = n) :
    (∑ x, After.weight (scores q k o ho r) x * v (ix2 x (⟨j.val % 128, by omega⟩ : Fin 128)))
        * Ideal.div (Ideal.ofBits .f32 0x3F800000#32) (∑ x, After.weight (scores q k o ho r) x)
      = R.late j := by
  subst e hj
  have hs : scores q k (j.val / 128 * 128) ho r
      = fun x => After.scaled (After.lane R.query j) (After.lane (R.k x) j) := by
    funext x
    unfold scores
    simp only [hq, hk]
    rfl
  have hv' : ∀ x, v (ix2 x (⟨j.val % 128, by omega⟩ : Fin 128)) = R.v x j := fun x =>
    (hv x _).trans (congrArg (R.v x) (Fin.ext (by dsimp only; omega)))
  rw [hs]
  simp only [hv']
  rfl

/-- The loads of whole blocks are the blocks. -/
theorem ld_rows {e : EltTy} (X : (⟨S256x1024, e⟩ : BufTy).Contents (Elt Ideal)) : View.ld X r0_2 = X :=
  View.ld_unit_lit _ X (by decide : ∀ a : Fin 2, (![0, 0] : Fin 2 → ℕ) a = 0)

theorem ld_out (X : (⟨S1024x1024, .bf16⟩ : BufTy).Contents (Elt Ideal)) : View.ld X r0_3 = X :=
  View.ld_unit_lit _ X (by decide)

theorem ld_gain (X : (⟨S1x1024, .f32⟩ : BufTy).Contents (Elt Ideal)) : View.ld X r0_4 = X :=
  View.ld_unit_lit _ X (by decide)

theorem ld_query (X : (⟨S1024x512, .bf16⟩ : BufTy).Contents (Elt Ideal)) : View.ld X r0_5 = X :=
  View.ld_unit_lit _ X (by decide)

theorem ld_back (X : (⟨S512x1024, .bf16⟩ : BufTy).Contents (Elt Ideal)) : View.ld X r0_14 = X :=
  View.ld_unit_lit _ X (by decide)

theorem ld_sub (X : (⟨S1024x2048, .bf16⟩ : BufTy).Contents (Elt Ideal)) : View.ld X r0_15 = X :=
  View.ld_unit_lit _ X (by decide)

theorem ld_keys (X : (⟨S128x128, .f32⟩ : BufTy).Contents (Elt Ideal)) : View.ld X r0_16 = X :=
  View.ld_unit_lit _ X (by decide)

variable (x0 : Vec Ideal S256x1024 .f32) (x1 x2 : Vec Ideal S256x1024 .bf16) (x3 : Vec Ideal S256x2048 .bf16)
  (x4 : Vec Ideal S256x1024 .bf16) (x5 : Vec Ideal S1024x1024 .bf16) (x6 : Vec Ideal S1x1024 .f32)
  (x7 : Vec Ideal S1024x512 .bf16) (x8 : Vec Ideal S512x1024 .bf16) (x9 : Vec Ideal S1x1024 .f32)
  (x10 : Vec Ideal S1024x2048 .bf16) (x11 x12 : Vec Ideal S128x128 .f32)

/-- The residual with the gated mixers, of the loaded blocks. -/
theorem loaded_at (r : Fin 256) (d : Fin 1024) :
    k0_pay2 (F := Ideal) (View.ld x3 r0_0) (View.ld x3 r0_1) (View.ld x1 r0_2) (View.ld x2 r0_2) (View.ld x0 r0_2)
        (View.ld x5 r0_3) (ix2 r d)
      = (blkRow x0 x1 x2 x3 x4 x5 x6 x7 x8 x9 x10 r).res d := by
  rw [mixed_at, ld_rows, ld_rows, ld_rows, ld_out]
  have e0 : ∀ k : Fin 1024, View.ld x3 r0_0 (ix2 r k) = x3 (ix2 r (⟨0 + k.val, by omega⟩ : Fin 2048)) :=
    fun k => ld_gate x3 0 _ (by decide) r k
  have e1 : ∀ k : Fin 1024, View.ld x3 r0_1 (ix2 r k) = x3 (ix2 r (⟨1024 + k.val, by omega⟩ : Fin 2048)) :=
    fun k => ld_gate x3 1024 _ (by decide) r k
  simp only [e0, e1]
  rfl

/-- The residual with the gated mixers. -/
theorem res_at (r : Fin 256) (d : Fin 1024) :
    k0_pay43 (F := Ideal) x0 x1 x2 x3 x4 x5 x6 x7 x8 x9 x10 x11 x12 (ix2 r d)
      = (blkRow x0 x1 x2 x3 x4 x5 x6 x7 x8 x9 x10 r).res d :=
  loaded_at x0 x1 x2 x3 x4 x5 x6 x7 x8 x9 x10 r d

/-- The queries of the memory. -/
theorem queries_at (r : Fin 256) (j : Fin 512) :
    k0_pay44 (F := Ideal) x0 x1 x2 x3 x4 x5 x6 x7 x8 x9 x10 x11 x12 (ix2 r j)
      = (blkRow x0 x1 x2 x3 x4 x5 x6 x7 x8 x9 x10 r).query j := by
  unfold k0_pay44
  rw [query_at, ld_gain, ld_query]
  simp only [loaded_at x0 x1 x2 x3 x4 x5 x6 x7 x8 x9 x10]
  rfl

/-- 128 columns of the block of keys and values are the keys of head `n`. -/
theorem head_k (n o : ℕ) (hn : n < 4) (e : o = n * 128)
    (h : ∀ a, (![0, o] : Fin 2 → ℕ) a + (![256, 128] : Fin 2 → ℕ) a ≤ S256x1024.size a) (r : Fin 256) (x : Fin 256)
    (d : Fin 128) :
    View.ld x4 (Rect.unit ![0, o] ![256, 128] h) (ix2 x d)
      = (blkRow x0 x1 x2 x3 x4 x5 x6 x7 x8 x9 x10 r).k x (⟨n * 128 + d.val, by omega⟩ : Fin 512) := by
  subst e
  exact ld_head x4 _ h (by omega) x d

/-- 128 columns of the block of keys and values are the values of head `n`. -/
theorem head_v (n o : ℕ) (hn : n < 4) (e : o = 512 + n * 128)
    (h : ∀ a, (![0, o] : Fin 2 → ℕ) a + (![256, 128] : Fin 2 → ℕ) a ≤ S256x1024.size a) (r : Fin 256) (x : Fin 256)
    (d : Fin 128) :
    View.ld x4 (Rect.unit ![0, o] ![256, 128] h) (ix2 x d)
      = (blkRow x0 x1 x2 x3 x4 x5 x6 x7 x8 x9 x10 r).v x (⟨n * 128 + d.val, by omega⟩ : Fin 512) := by
  subst e
  exact (ld_head x4 _ h (by omega) x d).trans (congrArg x4 (congrArg (ix2 x) (Fin.ext (by dsimp only; omega))))

/-- The residual with what is attended, in the kernel's order. -/
theorem hidden_at (r : Fin 256) (d : Fin 1024) :
    k0_pay51 (F := Ideal) x0 x1 x2 x3 x4 x5 x6 x7 x8 x9 x10 x11 x12 (ix2 r d)
      = (blkRow x0 x1 x2 x3 x4 x5 x6 x7 x8 x9 x10 r).hiddenLate d := by
  unfold k0_pay51
  rw [added_at, ld_back, res_at]
  unfold After.Row.hiddenLate After.added
  refine congrArg ((blkRow x0 x1 x2 x3 x4 x5 x6 x7 x8 x9 x10 r).res d + ·) (Finset.sum_congr rfl fun j _ =>
    congrArg (· * x8 (ix2 j d)) ?_)
  have hq := queries_at x0 x1 x2 x3 x4 x5 x6 x7 x8 x9 x10 x11 x12 r
  have hj : j.val < 512 := j.isLt
  unfold k0_pay45 k0_pay46 k0_pay47 k0_pay48 k0_pay49 k0_pay50
  simp only [weight0, weight1, weight2, weight3, inverse0, total1]
  unfold four
  split
  · exact head_eq _ _ _ _ 0 (by decide) r hq (head_k _ _ _ _ _ _ _ _ _ _ _ 0 0 (by decide) rfl _ r)
      (head_v _ _ _ _ _ _ _ _ _ _ _ 0 512 (by decide) rfl _ r) 0 (by decide) rfl j (by omega)
  split
  · exact head_eq _ _ _ _ 1 (by decide) r hq (head_k _ _ _ _ _ _ _ _ _ _ _ 1 128 (by decide) rfl _ r)
      (head_v _ _ _ _ _ _ _ _ _ _ _ 1 640 (by decide) rfl _ r) 128 (by decide) rfl j (by omega)
  split
  · exact head_eq _ _ _ _ 2 (by decide) r hq (head_k _ _ _ _ _ _ _ _ _ _ _ 2 256 (by decide) rfl _ r)
      (head_v _ _ _ _ _ _ _ _ _ _ _ 2 768 (by decide) rfl _ r) 256 (by decide) rfl j (by omega)
  · exact head_eq _ _ _ _ 3 (by decide) r hq (head_k _ _ _ _ _ _ _ _ _ _ _ 3 384 (by decide) rfl _ r)
      (head_v _ _ _ _ _ _ _ _ _ _ _ 3 896 (by decide) rfl _ r) 384 (by decide) rfl j (by omega)

/-- The queries of the sub-keys, in the kernel's order. -/
theorem subs_at (r : Fin 256) (j : Fin 2048) :
    k0_pay52 (F := Ideal) x0 x1 x2 x3 x4 x5 x6 x7 x8 x9 x10 x11 x12 (ix2 r j)
      = (blkRow x0 x1 x2 x3 x4 x5 x6 x7 x8 x9 x10 r).subLate j := by
  unfold k0_pay52
  rw [ld_gain, ld_sub]
  refine (subquery_at _ _ _ r j).trans ?_
  simp only [hidden_at]
  rfl

/-- What rounding leaves of the queries of the sub-keys. -/
theorem subs_rest (r : Fin 256) (j : Fin 2048) :
    k0_pay53 (F := Ideal) x0 x1 x2 x3 x4 x5 x6 x7 x8 x9 x10 x11 x12 (ix2 r j)
      = k0_pay52 (F := Ideal) x0 x1 x2 x3 x4 x5 x6 x7 x8 x9 x10 x11 x12 (ix2 r j)
        - k0_pay52 (F := Ideal) x0 x1 x2 x3 x4 x5 x6 x7 x8 x9 x10 x11 x12 (ix2 r j) := rfl

/-- The first sub-keys. -/
theorem keys1_at (a d : Fin 128) :
    k0_pay54 (F := Ideal) x0 x1 x2 x3 x4 x5 x6 x7 x8 x9 x10 x11 x12 (ix2 a d) = x11 (ix2 a d) := by
  unfold k0_pay54
  rw [ld_keys]
  pointwise [k0_pay16, k0_pay15]

/-- What rounding leaves of the first sub-keys. -/
theorem keys1_rest (a d : Fin 128) :
    k0_pay55 (F := Ideal) x0 x1 x2 x3 x4 x5 x6 x7 x8 x9 x10 x11 x12 (ix2 a d) = x11 (ix2 a d) - x11 (ix2 a d) := by
  unfold k0_pay55
  rw [ld_keys]
  pointwise [k0_pay17, k0_pay16, k0_pay15]

/-- The second sub-keys. -/
theorem keys2_at (a d : Fin 128) :
    k0_pay56 (F := Ideal) x0 x1 x2 x3 x4 x5 x6 x7 x8 x9 x10 x11 x12 (ix2 a d) = x12 (ix2 a d) := by
  unfold k0_pay56
  rw [ld_keys]
  pointwise [k0_pay19, k0_pay18]

/-- What rounding leaves of the second sub-keys. -/
theorem keys2_rest (a d : Fin 128) :
    k0_pay57 (F := Ideal) x0 x1 x2 x3 x4 x5 x6 x7 x8 x9 x10 x11 x12 (ix2 a d) = x12 (ix2 a d) - x12 (ix2 a d) := by
  unfold k0_pay57
  rw [ld_keys]
  pointwise [k0_pay20, k0_pay19, k0_pay18]

/-- Sub-key `a`'s product with 128 columns `f` of the query of row `r`, each split in two, where all is real. -/
theorem part_eq (k kl : FVec Ideal S128x128 .bf16) (K : Fin 128 → EReal) (a : Fin 128) (r : Fin 256) (f : Fin 128 → Fin 2048)
    (hR : (blkRow x0 x1 x2 x3 x4 x5 x6 x7 x8 x9 x10 r).Reals) (hK : ∀ d, Cert.Finite.Real' (K d))
    (hk : ∀ d, k (ix2 a d) = K d) (hkl : ∀ d, kl (ix2 a d) = K d - K d) :
    (∑ d, k (ix2 a d) * k0_pay52 (F := Ideal) x0 x1 x2 x3 x4 x5 x6 x7 x8 x9 x10 x11 x12 (ix2 r (f d)))
        + (∑ d, k (ix2 a d) * k0_pay53 (F := Ideal) x0 x1 x2 x3 x4 x5 x6 x7 x8 x9 x10 x11 x12 (ix2 r (f d)))
        + ∑ d, kl (ix2 a d) * k0_pay52 (F := Ideal) x0 x1 x2 x3 x4 x5 x6 x7 x8 x9 x10 x11 x12 (ix2 r (f d))
      = ∑ d, K d * (blkRow x0 x1 x2 x3 x4 x5 x6 x7 x8 x9 x10 r).sub (f d) := by
  simp only [subs_rest, subs_at, hk, hkl, After.Row.subLate_eq hR]
  exact After.split_eq K (fun d => (blkRow x0 x1 x2 x3 x4 x5 x6 x7 x8 x9 x10 r).sub (f d)) hK
    fun d => After.Row.sub_real hR (f d)

end Cert.PostIdeal.Value

end
-- ==== Proof.Post.Reference.lean ====
/- What follows the mixers: what the reference computes at one row. -/
module

public import proofs.«01_k».proof.Proof.Gen.PostRefIdeal.Read
public import proofs.«01_k».proof.Proof.Post.Row
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PostRefIdeal.Value
open Cert.PostRefIdeal Cert.PostRefIdeal.Read

variable (x0 : FVec Ideal S32x2048x1024 .f32) (x1 x2 : FVec Ideal S65536x1024 .bf16) (x3 : FVec Ideal S65536x2048 .bf16)
  (x4 : FVec Ideal S8192x1024 .bf16) (x5 : FVec Ideal S1x1024x1024 .f32) (x6 : FVec Ideal S1x1024 .f32)
  (x7 : FVec Ideal S1x1024x512 .f32) (x8 : FVec Ideal S1x512x1024 .f32) (x9 : FVec Ideal S1x1024 .f32)
  (x10 : FVec Ideal S1x1024x2048 .f32) (x11 x12 : FVec Ideal S1x128x128 .f32)

/-- What row `s` of sequence `b` is computed from. -/
def row (b : Fin 32) (s : Fin 2048) : After.Row where
  x k := x0 (ix3 b s k)
  a k := x1 (ix2 (⟨b.val * 2048 + s.val, by omega⟩ : Fin 65536) k)
  w k := x2 (ix2 (⟨b.val * 2048 + s.val, by omega⟩ : Fin 65536) k)
  ga k := x3 (ix2 (⟨b.val * 2048 + s.val, by omega⟩ : Fin 65536) (⟨k.val, by omega⟩ : Fin 2048))
  gw k := x3 (ix2 (⟨b.val * 2048 + s.val, by omega⟩ : Fin 65536) (⟨1024 + k.val, by omega⟩ : Fin 2048))
  o e d := x5 (ix3 0 e d)
  g k := x6 (ix2 0 k)
  q k j := x7 (ix3 0 k j)
  k x j := x4 (ix2 (⟨b.val * 256 + x.val, by omega⟩ : Fin 8192) (⟨j.val, by omega⟩ : Fin 1024))
  v x j := x4 (ix2 (⟨b.val * 256 + x.val, by omega⟩ : Fin 8192) (⟨512 + j.val, by omega⟩ : Fin 1024))
  p j d := x8 (ix3 0 j d)
  g' k := x9 (ix2 0 k)
  s k j := x10 (ix3 0 k j)

/-- The residual with the gated mixers. -/
theorem res_at (b : Fin 32) (s : Fin 2048) (d : Fin 1024) :
    val_main_v14 (F := Ideal) x0 x1 x2 x3 x5 (ix3 b s d) = (row x0 x1 x2 x3 x4 x5 x6 x7 x8 x9 x10 b s).res d := by
  unfold After.Row.res row
  pointwise [After.mixed, val_main_v14, val_main_v13, val_main_v12, val_main_v11, val_main_v10, val_main_v9, val_main_v8,
    val_main_v7, val_main_v6, val_main_v5, val_main_v4, val_main_v2, val_main_v1, val_main_v0]

/-- The queries of the memory. -/
theorem query_at (b : Fin 32) (s : Fin 2048) (j : Fin 512) :
    val_main_v30 (F := Ideal) x0 x1 x2 x3 x5 x6 x7 (ix3 b s j) = (row x0 x1 x2 x3 x4 x5 x6 x7 x8 x9 x10 b s).query j := by
  have h : val_main_v30 (F := Ideal) x0 x1 x2 x3 x5 x6 x7 (ix3 b s j)
      = Rows.proj (fun k => val_main_v14 (F := Ideal) x0 x1 x2 x3 x5 (ix3 b s k)) (fun k => x6 (ix2 0 k))
          (fun k => x7 (ix3 0 k j)) := by
    unfold val_main_v30 val_main_v28 val_main_v25 val_main_v24 val_main_v23 val_main_v22 val_main_v20 val_main_v18
      val_main_v17 val_main_v16
    generalize val_main_v14 (F := Ideal) x0 x1 x2 x3 x5 = X
    pointwise [Rows.proj, Rows.norm, Rows.rinv, val_main_v29, val_main_v27, val_main_v26, val_main_v21, val_main_v19,
      val_main_v15, val_main_cst, val_main_cst_0, val_main_cst_1]
  rw [h]
  simp only [res_at x0 x1 x2 x3 x4 x5 x6 x7 x8 x9 x10]
  rfl

/-- The memory's keys. -/
theorem keys_at (b : Fin 32) (x : Fin 256) (h : Fin 4) (d : Fin 128) :
    val_main_v34 (F := Ideal) x4 (ix4 b x h d)
      = x4 (ix2 (⟨b.val * 256 + x.val, by omega⟩ : Fin 8192) (⟨h.val * 128 + d.val, by omega⟩ : Fin 1024)) := by
  pointwise [val_main_v34, val_main_v33, val_main_v32, val_main_v3]

/-- The memory's values. -/
theorem values_at (b : Fin 32) (x : Fin 256) (h : Fin 4) (d : Fin 128) :
    val_main_v36 (F := Ideal) x4 (ix4 b x h d)
      = x4 (ix2 (⟨b.val * 256 + x.val, by omega⟩ : Fin 8192) (⟨512 + h.val * 128 + d.val, by omega⟩ : Fin 1024)) := by
  pointwise [val_main_v36, val_main_v35, val_main_v32, val_main_v3]

/-- The scores of row `s` for head `h`. -/
def scores (b : Fin 32) (s : Fin 2048) (h : Fin 4) (x : Fin 256) : EReal :=
  val_main_v39 (F := Ideal) x0 x1 x2 x3 x4 x5 x6 x7 (ix4 b h s x)

/-- The scores are the row's. -/
theorem scores_at (b : Fin 32) (s : Fin 2048) (j : Fin 512) (x : Fin 256) :
    scores x0 x1 x2 x3 x4 x5 x6 x7 b s (⟨j.val / 128, by omega⟩ : Fin 4) x
      = After.score (After.lane (row x0 x1 x2 x3 x4 x5 x6 x7 x8 x9 x10 b s).query j)
          (After.lane ((row x0 x1 x2 x3 x4 x5 x6 x7 x8 x9 x10 b s).k x) j) := by
  have h : scores x0 x1 x2 x3 x4 x5 x6 x7 b s (⟨j.val / 128, by omega⟩ : Fin 4) x
      = After.score (fun d => val_main_v30 (F := Ideal) x0 x1 x2 x3 x5 x6 x7
            (ix3 b s (⟨j.val / 128 * 128 + d.val, by omega⟩ : Fin 512)))
          (fun d => val_main_v34 (F := Ideal) x4 (ix4 b x (⟨j.val / 128, by omega⟩ : Fin 4) d)) := by
    unfold scores val_main_v39 val_main_v37 val_main_v31
    generalize val_main_v30 (F := Ideal) x0 x1 x2 x3 x5 x6 x7 = X
    generalize val_main_v34 (F := Ideal) x4 = Y
    pointwise [After.score, val_main_v38, val_main_cst_2]
  rw [h]
  simp only [query_at x0 x1 x2 x3 x4 x5 x6 x7 x8 x9 x10, keys_at]
  rfl

/-- The largest score, over any array of scores. -/
theorem max_read (y : FVec Ideal S32x4x2048x256 .f32) (b : Fin 32) (h : Fin 4) (s : Fin 2048) :
    Host.reduce (FloatOps.maximumf (F := Ideal) (φ := .f32)) y (val_main_cst_3 (F := Ideal))
        Gen.reducesTo_S32x4x2048x256_S32x4x2048_d3 Gen.h_S_ (ix3 b h s)
      = After.peak (fun x => y (ix4 b h s x)) := by
  pointwise [After.peak, val_main_cst_3]

/-- A weight before the normalisation, over any arrays of scores and of largest scores. -/
theorem weight_read (y : FVec Ideal S32x4x2048x256 .f32) (p : FVec Ideal S32x4x2048 .f32) (b : Fin 32) (s : Fin 2048)
    (h : Fin 4) (x : Fin 256) :
    Host.exp (subf y (broadcastInDim S32x4x2048x256 ![0, 1, 2, 3] Gen.bcast_S32x4x2048x1_S32x4x2048x256_0_1_2_3
        (broadcastInDim S32x4x2048x1 ![0, 1, 2] Gen.bcast_S32x4x2048_S32x4x2048x1_0_1_2
          (maximumf (val_main_v41 (F := Ideal)) p)))) (ix4 b h s x)
      = Ideal.exp (y (ix4 b h s x) - max (Ideal.ofBits .f32 0xFF800000#32) (p (ix3 b h s))) := by
  pointwise [val_main_v41, val_main_cst_4]

/-- The largest score of row `s` for head `h`. -/
theorem peak_at (b : Fin 32) (s : Fin 2048) (h : Fin 4) :
    val_main_v40 (F := Ideal) x0 x1 x2 x3 x4 x5 x6 x7 (ix3 b h s)
      = After.peak (scores x0 x1 x2 x3 x4 x5 x6 x7 b s h) :=
  max_read (val_main_v39 (F := Ideal) x0 x1 x2 x3 x4 x5 x6 x7) b h s

/-- The weights before the normalisation. -/
theorem weight_at (b : Fin 32) (s : Fin 2048) (h : Fin 4) (x : Fin 256) :
    val_main_v46 (F := Ideal) x0 x1 x2 x3 x4 x5 x6 x7 (ix4 b h s x)
      = After.weight (scores x0 x1 x2 x3 x4 x5 x6 x7 b s h) x := by
  refine (weight_read (val_main_v39 (F := Ideal) x0 x1 x2 x3 x4 x5 x6 x7)
    (val_main_v40 (F := Ideal) x0 x1 x2 x3 x4 x5 x6 x7) b s h x).trans ?_
  rw [peak_at, After.neg_inf, bot_sup_eq]
  unfold After.weight
  rw [scores]

/-- What is attended. -/
theorem attended_at (b : Fin 32) (s : Fin 2048) (j : Fin 512) :
    val_main_v53 (F := Ideal) x0 x1 x2 x3 x4 x5 x6 x7 (ix3 b s j)
      = (row x0 x1 x2 x3 x4 x5 x6 x7 x8 x9 x10 b s).attended j := by
  have e : val_main_v53 (F := Ideal) x0 x1 x2 x3 x4 x5 x6 x7 (ix3 b s j)
      = ∑ x, val_main_v36 (F := Ideal) x4 (ix4 b x (⟨j.val / 128, by omega⟩ : Fin 4) (⟨j.val % 128, by omega⟩ : Fin 128))
          * Ideal.div (val_main_v46 (F := Ideal) x0 x1 x2 x3 x4 x5 x6 x7 (ix4 b (⟨j.val / 128, by omega⟩ : Fin 4) s x))
              (∑ x, val_main_v46 (F := Ideal) x0 x1 x2 x3 x4 x5 x6 x7 (ix4 b (⟨j.val / 128, by omega⟩ : Fin 4) s x)) := by
    unfold val_main_v53 val_main_v52 val_main_v51 val_main_v50 val_main_v49 val_main_v48 val_main_v47
    generalize val_main_v46 (F := Ideal) x0 x1 x2 x3 x4 x5 x6 x7 = X
    generalize val_main_v36 (F := Ideal) x4 = Y
    pointwise [val_main_cst_5]
  rw [e]
  simp only [weight_at]
  unfold After.Row.attended After.before
  simp only [← scores_at]
  refine Finset.sum_congr rfl fun x _ => ?_
  rw [mul_comm, values_at]
  refine congrArg (_ * ·) (congrArg x4 (congrArg (ix2 _) (Fin.ext ?_)))
  dsimp only
  omega

/-- The residual with what is attended. -/
theorem hidden_at (b : Fin 32) (s : Fin 2048) (d : Fin 1024) :
    val_main_v56 (F := Ideal) x0 x1 x2 x3 x4 x5 x6 x7 x8 (ix3 b s d)
      = (row x0 x1 x2 x3 x4 x5 x6 x7 x8 x9 x10 b s).hidden d := by
  have e : val_main_v56 (F := Ideal) x0 x1 x2 x3 x4 x5 x6 x7 x8 (ix3 b s d)
      = After.added (fun k => val_main_v14 (F := Ideal) x0 x1 x2 x3 x5 (ix3 b s k))
          (fun j => val_main_v53 (F := Ideal) x0 x1 x2 x3 x4 x5 x6 x7 (ix3 b s j)) (fun j d => x8 (ix3 0 j d)) d := by
    unfold val_main_v56 val_main_v55
    generalize val_main_v14 (F := Ideal) x0 x1 x2 x3 x5 = X
    generalize val_main_v53 (F := Ideal) x0 x1 x2 x3 x4 x5 x6 x7 = Y
    pointwise [After.added, val_main_v54]
  rw [e]
  simp only [res_at x0 x1 x2 x3 x4 x5 x6 x7 x8 x9 x10, attended_at x0 x1 x2 x3 x4 x5 x6 x7 x8 x9 x10]
  rfl

/-- The first result. -/
theorem result_at (n : Fin 65536) (d : Fin 1024) :
    val_main_v82 (F := Ideal) x0 x1 x2 x3 x4 x5 x6 x7 x8 (ix2 n d)
      = (row x0 x1 x2 x3 x4 x5 x6 x7 x8 x9 x10 (⟨n.val / 2048, by omega⟩ : Fin 32) (⟨n.val % 2048, by omega⟩ : Fin 2048)).hidden
          d := by
  rw [← hidden_at]
  unfold val_main_v82
  generalize val_main_v56 (F := Ideal) x0 x1 x2 x3 x4 x5 x6 x7 x8 = X
  pointwise

/-- The queries of the sub-keys. -/
theorem sub_at (b : Fin 32) (s : Fin 2048) (j : Fin 2048) :
    val_main_v72 (F := Ideal) x0 x1 x2 x3 x4 x5 x6 x7 x8 x9 x10 (ix3 b s j)
      = (row x0 x1 x2 x3 x4 x5 x6 x7 x8 x9 x10 b s).sub j := by
  have h : val_main_v72 (F := Ideal) x0 x1 x2 x3 x4 x5 x6 x7 x8 x9 x10 (ix3 b s j)
      = Rows.proj (fun k => val_main_v56 (F := Ideal) x0 x1 x2 x3 x4 x5 x6 x7 x8 (ix3 b s k)) (fun k => x9 (ix2 0 k))
          (fun k => x10 (ix3 0 k j)) := by
    unfold val_main_v72 val_main_v70 val_main_v67 val_main_v66 val_main_v65 val_main_v64 val_main_v62 val_main_v60
      val_main_v59 val_main_v58
    generalize val_main_v56 (F := Ideal) x0 x1 x2 x3 x4 x5 x6 x7 x8 = X
    pointwise [Rows.proj, Rows.norm, Rows.rinv, val_main_v71, val_main_v69, val_main_v68, val_main_v63, val_main_v61,
      val_main_v57, val_main_cst_6, val_main_cst_7, val_main_cst_8]
  rw [h]
  simp only [hidden_at x0 x1 x2 x3 x4 x5 x6 x7 x8 x9 x10]
  rfl

/-- Sub-key `a`'s product with the query of row `n` at column `o` on. -/
def keyScore (x : FVec Ideal S1x128x128 .f32) (o : ℕ) (ho : o + 128 ≤ 2048) (a : Fin 128) (n : Fin 65536) : EReal :=
  ∑ d : Fin 128, x (ix3 0 a d) * (row x0 x1 x2 x3 x4 x5 x6 x7 x8 x9 x10 (⟨n.val / 2048, by omega⟩ : Fin 32)
    (⟨n.val % 2048, by omega⟩ : Fin 2048)).sub (⟨o + d.val, by omega⟩ : Fin 2048)

/-- The second result. -/
theorem score1_at (h : Fin 8) (a : Fin 128) (n : Fin 65536) :
    val_main_v77 (F := Ideal) x0 x1 x2 x3 x4 x5 x6 x7 x8 x9 x10 x11 (ix3 h a n)
      = keyScore x0 x1 x2 x3 x4 x5 x6 x7 x8 x9 x10 x11 (h.val * 256) (by omega) a n := by
  unfold keyScore
  simp only [← sub_at]
  unfold val_main_v77 val_main_v76 val_main_v74 val_main_v73
  generalize val_main_v72 (F := Ideal) x0 x1 x2 x3 x4 x5 x6 x7 x8 x9 x10 = X
  pointwise [val_main_v75]

/-- The third result. -/
theorem score2_at (h : Fin 8) (a : Fin 128) (n : Fin 65536) :
    val_main_v81 (F := Ideal) x0 x1 x2 x3 x4 x5 x6 x7 x8 x9 x10 x12 (ix3 h a n)
      = keyScore x0 x1 x2 x3 x4 x5 x6 x7 x8 x9 x10 x12 (h.val * 256 + 128) (by omega) a n := by
  unfold keyScore
  simp only [← sub_at]
  unfold val_main_v81 val_main_v80 val_main_v78 val_main_v73
  generalize val_main_v72 (F := Ideal) x0 x1 x2 x3 x4 x5 x6 x7 x8 x9 x10 = X
  pointwise [val_main_v79]
  simp only [Nat.add_assoc]

end Cert.PostRefIdeal.Value

end
-- ==== Proof.Post.Entry.lean ====
/- What follows the mixers: the kernel's blocks in the arrays. -/
module

public import proofs.«01_k».proof.Proof.Post.Kernel
public import proofs.«01_k».proof.Proof.Post.Reference
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PostIdeal.Value
open Cert.PostIdeal Cert.PostIdeal.Gen

variable (m : (ℓ : Loc nD τ sig) → Buf (Elt Ideal) ℓ)

/-- Where each window's block lies at grid point `t`: block `t` of the rows, the block of the sequence's memory, the
    weights whole, and block `t` of the results' rows. -/
theorem idx : ∀ t : Fin cfg0.N, win0_0.index t = ![t.val, 0] ∧ win0_1.index t = ![t.val, 0] ∧
    win0_2.index t = ![t.val, 0] ∧ win0_3.index t = ![t.val, 0] ∧ win0_4.index t = ![t.val / 8, 0] ∧
    win0_5.index t = ![0, 0] ∧ win0_6.index t = ![0, 0] ∧ win0_7.index t = ![0, 0] ∧ win0_8.index t = ![0, 0] ∧
    win0_9.index t = ![0, 0] ∧ win0_10.index t = ![0, 0] ∧ win0_11.index t = ![0, 0] ∧ win0_12.index t = ![0, 0] ∧
    win0_13.index t = ![t.val, 0] ∧ win0_14.index t = ![0, 0, t.val] ∧ win0_15.index t = ![0, 0, t.val] :=
  (by decide +kernel : ∀ t : Fin grid0.N, _)

/-- Row `r` of block `t` in the whole matrix. -/
abbrev rowOf (t : Fin cfg0.N) (ht : t.val < 256) (r : Fin 256) : Fin 65536 := ⟨t.val * 256 + r.val, by omega⟩

/-- The sequence of block `t`. -/
abbrev seqOf (t : Fin cfg0.N) (ht : t.val < 256) : Fin 32 := ⟨t.val / 8, by omega⟩

/-- Row `r` of block `t` in its sequence. -/
abbrev posOf (t : Fin cfg0.N) (ht : t.val < 256) (r : Fin 256) : Fin 2048 := ⟨t.val % 8 * 256 + r.val, by omega⟩

variable (c : Dev nD) (t : Fin cfg0.N) (ht : t.val < 256)

/-- The block of rows. -/
theorem blk_x (r : Fin 256) (k : Fin 1024) :
    iblk m c 0 t (ix2 r k) = m ((c : Thread nD τ).loc main_arg0) (ix3 (seqOf t ht) (posOf t ht r) k) := by
  have e : V m c main_v0 (ix2 (rowOf t ht r) k) = m ((c : Thread nD τ).loc main_arg0) (ix3 (seqOf t ht) (posOf t ht r) k) := by
    entry_read
    pointwise
    refine congrArg _ (congr (congr (congrArg ix3 (Fin.ext ?_)) (Fin.ext ?_)) rfl) <;> dsimp only <;> omega
  rw [← e]
  unfold iblk
  generalize V m c main_v0 = X
  blk_ext [idx t]

/-- The block of the attention. -/
theorem blk_a (r : Fin 256) (k : Fin 1024) :
    iblk m c 1 t (ix2 r k) = m ((c : Thread nD τ).loc main_arg1) (ix2 (rowOf t ht r) k) := by
  have e : V m c main_arg1 = m ((c : Thread nD τ).loc main_arg1) := by
    entry_read
    rfl
  rw [← e]
  unfold iblk
  generalize V m c main_arg1 = X
  blk_ext [idx t]

/-- The block of the recurrence. -/
theorem blk_w (r : Fin 256) (k : Fin 1024) :
    iblk m c 2 t (ix2 r k) = m ((c : Thread nD τ).loc main_arg2) (ix2 (rowOf t ht r) k) := by
  have e : V m c main_arg2 = m ((c : Thread nD τ).loc main_arg2) := by
    entry_read
    rfl
  rw [← e]
  unfold iblk
  generalize V m c main_arg2 = X
  blk_ext [idx t]

/-- The block of the gates. -/
theorem blk_gates (r : Fin 256) (k : Fin 2048) :
    iblk m c 3 t (ix2 r k) = m ((c : Thread nD τ).loc main_arg3) (ix2 (rowOf t ht r) k) := by
  have e : V m c main_arg3 = m ((c : Thread nD τ).loc main_arg3) := by
    entry_read
    rfl
  rw [← e]
  unfold iblk
  generalize V m c main_arg3 = X
  blk_ext [idx t]

/-- The block of the memory's keys and values. -/
theorem blk_kv (x : Fin 256) (k : Fin 1024) :
    iblk m c 4 t (ix2 x k)
      = m ((c : Thread nD τ).loc main_arg4) (ix2 (⟨t.val / 8 * 256 + x.val, by omega⟩ : Fin 8192) k) := by
  have e : V m c main_arg4 = m ((c : Thread nD τ).loc main_arg4) := by
    entry_read
    rfl
  rw [← e]
  unfold iblk
  generalize V m c main_arg4 = X
  blk_ext [idx t]

/-- The projection of the mixers. -/
theorem blk_o (k d : Fin 1024) : iblk m c 5 t (ix2 k d) = m ((c : Thread nD τ).loc main_arg5) (ix3 0 k d) := by
  have e : V m c main_v2 (ix2 k d) = m ((c : Thread nD τ).loc main_arg5) (ix3 0 k d) := by
    entry_read
    pointwise
  rw [← e]
  unfold iblk
  generalize V m c main_v2 = X
  blk_ext [idx t]

/-- The gain of the queries of the memory. -/
theorem blk_g (k : Fin 1024) : iblk m c 6 t (ix2 0 k) = m ((c : Thread nD τ).loc main_arg6) (ix2 0 k) := by
  have e : V m c main_v13 (ix2 0 k) = m ((c : Thread nD τ).loc main_arg6) (ix2 0 k) := by
    entry_read
    pointwise
  rw [← e]
  unfold iblk
  generalize V m c main_v13 = X
  blk_ext [idx t]

/-- The weights of the queries of the memory. -/
theorem blk_q (k : Fin 1024) (j : Fin 512) : iblk m c 7 t (ix2 k j) = m ((c : Thread nD τ).loc main_arg7) (ix3 0 k j) := by
  have e : V m c main_v5 (ix2 k j) = m ((c : Thread nD τ).loc main_arg7) (ix3 0 k j) := by
    entry_read
    pointwise
  rw [← e]
  unfold iblk
  generalize V m c main_v5 = X
  blk_ext [idx t]

/-- The projection of what is attended. -/
theorem blk_p (j : Fin 512) (d : Fin 1024) : iblk m c 8 t (ix2 j d) = m ((c : Thread nD τ).loc main_arg8) (ix3 0 j d) := by
  have e : V m c main_v7 (ix2 j d) = m ((c : Thread nD τ).loc main_arg8) (ix3 0 j d) := by
    entry_read
    pointwise
  rw [← e]
  unfold iblk
  generalize V m c main_v7 = X
  blk_ext [idx t]

/-- The gain of the queries of the sub-keys. -/
theorem blk_g' (k : Fin 1024) : iblk m c 9 t (ix2 0 k) = m ((c : Thread nD τ).loc main_arg9) (ix2 0 k) := by
  have e : V m c main_v14 (ix2 0 k) = m ((c : Thread nD τ).loc main_arg9) (ix2 0 k) := by
    entry_read
    pointwise
  rw [← e]
  unfold iblk
  generalize V m c main_v14 = X
  blk_ext [idx t]

/-- The weights of the queries of the sub-keys. -/
theorem blk_s (k : Fin 1024) (j : Fin 2048) :
    iblk m c 10 t (ix2 k j) = m ((c : Thread nD τ).loc main_arg10) (ix3 0 k j) := by
  have e : V m c main_v10 (ix2 k j) = m ((c : Thread nD τ).loc main_arg10) (ix3 0 k j) := by
    entry_read
    pointwise
  rw [← e]
  unfold iblk
  generalize V m c main_v10 = X
  blk_ext [idx t]

/-- The first sub-keys. -/
theorem blk_k1 (a d : Fin 128) : iblk m c 11 t (ix2 a d) = m ((c : Thread nD τ).loc main_arg11) (ix3 0 a d) := by
  have e : V m c main_v11 (ix2 a d) = m ((c : Thread nD τ).loc main_arg11) (ix3 0 a d) := by
    entry_read
    pointwise
  rw [← e]
  unfold iblk
  generalize V m c main_v11 = X
  blk_ext [idx t]

/-- The second sub-keys. -/
theorem blk_k2 (a d : Fin 128) : iblk m c 12 t (ix2 a d) = m ((c : Thread nD τ).loc main_arg12) (ix3 0 a d) := by
  have e : V m c main_v12 (ix2 a d) = m ((c : Thread nD τ).loc main_arg12) (ix3 0 a d) := by
    entry_read
    pointwise
  rw [← e]
  unfold iblk
  generalize V m c main_v12 = X
  blk_ext [idx t]

/-- What row `s` of sequence `b` is computed from, in the arrays. -/
abbrev arrRow (b : Fin 32) (s : Fin 2048) : After.Row :=
  Cert.PostRefIdeal.Value.row (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) b s

/-- What row `r` of the block at grid point `t` is computed from is what its row in the arrays is. -/
theorem row_eq (r : Fin 256) :
    blkRow (iblk m c 0 t) (iblk m c 1 t) (iblk m c 2 t) (iblk m c 3 t) (iblk m c 4 t) (iblk m c 5 t) (iblk m c 6 t)
        (iblk m c 7 t) (iblk m c 8 t) (iblk m c 9 t) (iblk m c 10 t) r
      = arrRow m c (seqOf t ht) (posOf t ht r) := by
  have er : (⟨t.val / 8 * 2048 + (t.val % 8 * 256 + r.val), by omega⟩ : Fin 65536) = rowOf t ht r :=
    Fin.ext (by dsimp only; omega)
  unfold blkRow arrRow Cert.PostRefIdeal.Value.row
  simp only [blk_x m c t ht, blk_a m c t ht, blk_w m c t ht, blk_gates m c t ht, blk_kv m c t ht, blk_o, blk_g, blk_q, blk_p,
    blk_g', blk_s, er, Nat.zero_add]

/-- Where the first result's block of grid point `t` lies. -/
theorem emb_h (r : Fin 256) (d : Fin 1024) : ((cfg0.win 13).blk t).view.emb (ix2 r d) = ix2 (rowOf t ht r) d := by
  blk_ext [idx t]

/-- Where the second result's block of grid point `t` lies. -/
theorem emb_s1 (h : Fin 8) (a : Fin 128) (r : Fin 256) :
    ((cfg0.win 14).blk t).view.emb (ix3 h a r) = ix3 h a (rowOf t ht r) := by
  blk_ext [idx t]

/-- Where the third result's block of grid point `t` lies. -/
theorem emb_s2 (h : Fin 8) (a : Fin 128) (r : Fin 256) :
    ((cfg0.win 15).blk t).view.emb (ix3 h a r) = ix3 h a (rowOf t ht r) := by
  blk_ext [idx t]

end Cert.PostIdeal.Value

end
-- ==== Proof.Post.Store.lean ====
/- What follows the mixers: what is stored of a block, in terms of what each row is computed from. -/
module

public import proofs.«01_k».proof.Proof.Post.Kernel
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Finite (Real')

namespace Cert.PostIdeal.Value
open Cert.PostIdeal Cert.PostIdeal.Gen

variable (x0 : Vec Ideal S256x1024 .f32) (x1 x2 : Vec Ideal S256x1024 .bf16) (x3 : Vec Ideal S256x2048 .bf16)
  (x4 : Vec Ideal S256x1024 .bf16) (x5 : Vec Ideal S1024x1024 .bf16) (x6 : Vec Ideal S1x1024 .f32)
  (x7 : Vec Ideal S1024x512 .bf16) (x8 : Vec Ideal S512x1024 .bf16) (x9 : Vec Ideal S1x1024 .f32)
  (x10 : Vec Ideal S1024x2048 .bf16) (x11 x12 : Vec Ideal S128x128 .f32)

/-- The stored residual. -/
theorem stored_h (r : Fin 256) (d : Fin 1024) (hR : (blkRow x0 x1 x2 x3 x4 x5 x6 x7 x8 x9 x10 r).Reals) :
    out0_13 (F := Ideal) x0 x1 x2 x3 x4 x5 x6 x7 x8 x9 x10 x11 x12 (ix2 r d)
      = (blkRow x0 x1 x2 x3 x4 x5 x6 x7 x8 x9 x10 r).hidden d := by
  unfold out0_13
  rw [View.canon_cons_unit_lit _ _ _ (by decide : ∀ a : Fin 2, (![0, 0] : Fin 2 → ℕ) a = 0)]
  refine (hidden_at x0 x1 x2 x3 x4 x5 x6 x7 x8 x9 x10 x11 x12 r d).trans ?_
  rw [After.Row.hiddenLate_eq hR]

/-- The scores of sub-keys `K` at an index of the block of scores, the queries' columns counted from `o` of each head. -/
def blkScore (K : Vec Ideal S128x128 .f32) (o : ℕ) (ho : o + 128 ≤ 256) (h : Fin 8) (a : Fin 128) (r : Fin 256) : EReal :=
  ∑ d : Fin 128, K (ix2 a d) * (blkRow x0 x1 x2 x3 x4 x5 x6 x7 x8 x9 x10 r).sub
    (⟨h.val * 256 + o + d.val, by omega⟩ : Fin 2048)

/-- One stored tile of scores is placed where its head's scores are. -/
theorem tile_eq (hR : ∀ r, (blkRow x0 x1 x2 x3 x4 x5 x6 x7 x8 x9 x10 r).Reals) (K : Vec Ideal S128x128 .f32)
    (hK : ∀ a d, Real' (K (ix2 a d))) (k kl : FVec Ideal S128x128 .bf16) (hk : ∀ a d, k (ix2 a d) = K (ix2 a d))
    (hkl : ∀ a d, kl (ix2 a d) = K (ix2 a d) - K (ix2 a d)) (o : ℕ) (ho : o + 128 ≤ 256) (y : S8x128x256.Idx)
    (a : Fin 128) (r : Fin 256) (f : Fin 128 → Fin 2048) (h1 : (y 1).val = a.val) (h2 : (y 2).val = r.val)
    (hf : ∀ d, (f d).val = (y 0).val * 256 + o + d.val) :
    (∑ d, k (ix2 a d) * k0_pay52 (F := Ideal) x0 x1 x2 x3 x4 x5 x6 x7 x8 x9 x10 x11 x12 (ix2 r (f d)))
        + (∑ d, k (ix2 a d) * k0_pay53 (F := Ideal) x0 x1 x2 x3 x4 x5 x6 x7 x8 x9 x10 x11 x12 (ix2 r (f d)))
        + ∑ d, kl (ix2 a d) * k0_pay52 (F := Ideal) x0 x1 x2 x3 x4 x5 x6 x7 x8 x9 x10 x11 x12 (ix2 r (f d))
      = blkScore x0 x1 x2 x3 x4 x5 x6 x7 x8 x9 x10 K o ho (y 0) (y 1) (y 2) := by
  obtain rfl : y 1 = a := Fin.ext h1
  obtain rfl : y 2 = r := Fin.ext h2
  obtain rfl : f = fun d => (⟨(y 0).val * 256 + o + d.val, by have h0 : (y 0).val < 8 := (y 0).isLt; omega⟩ : Fin 2048) :=
    funext fun d => Fin.ext (hf d)
  exact part_eq x0 x1 x2 x3 x4 x5 x6 x7 x8 x9 x10 x11 x12 k kl (fun d => K (ix2 (y 1) d)) (y 1) (y 2) _ (hR _) (hK _)
    (hk _) (hkl _)

set_option maxHeartbeats 1000000 in
/-- The stored scores of the first sub-keys. -/
theorem stored_s1 (hR : ∀ r, (blkRow x0 x1 x2 x3 x4 x5 x6 x7 x8 x9 x10 r).Reals) (hK : ∀ a d, Real' (x11 (ix2 a d)))
    (y : S8x128x256.Idx) :
    out0_14 (F := Ideal) x0 x1 x2 x3 x4 x5 x6 x7 x8 x9 x10 x11 x12 y
      = blkScore x0 x1 x2 x3 x4 x5 x6 x7 x8 x9 x10 x11 0 (by decide) (y 0) (y 1) (y 2) := by
  have place := tile_eq x0 x1 x2 x3 x4 x5 x6 x7 x8 x9 x10 x11 x12 hR x11 hK _ _
    (keys1_at x0 x1 x2 x3 x4 x5 x6 x7 x8 x9 x10 x11 x12) (keys1_rest x0 x1 x2 x3 x4 x5 x6 x7 x8 x9 x10 x11 x12) 0
    (by decide) y
  revert place
  generalize blkScore x0 x1 x2 x3 x4 x5 x6 x7 x8 x9 x10 x11 0 (by decide) (y 0) (y 1) (y 2) = W
  intro place
  unfold out0_14
  canon_tiles x h
  all_goals pointwise [k0_pay21, k0_pay22, k0_pay24, k0_pay26, k0_pay27, k0_pay28, k0_pay29, k0_pay31, k0_pay34, k0_pay36,
    k0_pay40, k0_pay42]
  all_goals
    refine place _ _ _ h1 h2 ?_
    intro d
    dsimp only
    omega

set_option maxHeartbeats 1000000 in
/-- The stored scores of the second sub-keys. -/
theorem stored_s2 (hR : ∀ r, (blkRow x0 x1 x2 x3 x4 x5 x6 x7 x8 x9 x10 r).Reals) (hK : ∀ a d, Real' (x12 (ix2 a d)))
    (y : S8x128x256.Idx) :
    out0_15 (F := Ideal) x0 x1 x2 x3 x4 x5 x6 x7 x8 x9 x10 x11 x12 y
      = blkScore x0 x1 x2 x3 x4 x5 x6 x7 x8 x9 x10 x12 128 (by decide) (y 0) (y 1) (y 2) := by
  have place := tile_eq x0 x1 x2 x3 x4 x5 x6 x7 x8 x9 x10 x11 x12 hR x12 hK _ _
    (keys2_at x0 x1 x2 x3 x4 x5 x6 x7 x8 x9 x10 x11 x12) (keys2_rest x0 x1 x2 x3 x4 x5 x6 x7 x8 x9 x10 x11 x12) 128
    (by decide) y
  revert place
  generalize blkScore x0 x1 x2 x3 x4 x5 x6 x7 x8 x9 x10 x12 128 (by decide) (y 0) (y 1) (y 2) = W
  intro place
  unfold out0_15
  canon_tiles x h
  all_goals pointwise [k0_pay1, k0_pay23, k0_pay25, k0_pay30, k0_pay32, k0_pay33, k0_pay35, k0_pay37, k0_pay38, k0_pay39,
    k0_pay41]
  all_goals
    refine place _ _ _ h1 h2 ?_
    intro d
    dsimp only
    omega

end Cert.PostIdeal.Value

end
-- ==== Proof.Post.Value.lean ====
/- What follows the mixers: the arrays of results are the reference's. -/
module

public import proofs.«01_k».proof.Proof.Post.Entry
public import proofs.«01_k».proof.Proof.Post.Store
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Finite (Real')

namespace Cert.PostIdeal.Value
open Cert.PostIdeal Cert.PostIdeal.Gen

variable (m : (ℓ : Loc nD τ sig) → Buf (Elt Ideal) ℓ)

/-- The reference's residual. -/
abbrev REFh (c : Dev nD) : FVec Ideal S65536x1024 .f32 :=
  Cert.PostRefIdeal.Read.val_main_v82 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The reference's scores of the first sub-keys. -/
abbrev REF1 (c : Dev nD) : FVec Ideal S8x128x65536 .f32 :=
  Cert.PostRefIdeal.Read.val_main_v77 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The reference's scores of the second sub-keys. -/
abbrev REF2 (c : Dev nD) : FVec Ideal S8x128x65536 .f32 :=
  Cert.PostRefIdeal.Read.val_main_v81 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg12))

/-- A row by its number in the whole matrix. -/
theorem arr_row (c : Dev nD) (t : Fin cfg0.N) (ht : t.val < 256) (r : Fin 256) :
    arrRow m c (⟨(rowOf t ht r).val / 2048, by omega⟩ : Fin 32) (⟨(rowOf t ht r).val % 2048, by omega⟩ : Fin 2048)
      = arrRow m c (seqOf t ht) (posOf t ht r) := by
  have h1 : (⟨(rowOf t ht r).val / 2048, by omega⟩ : Fin 32) = seqOf t ht := Fin.ext (by dsimp only; omega)
  have h2 : (⟨(rowOf t ht r).val % 2048, by omega⟩ : Fin 2048) = posOf t ht r := Fin.ext (by dsimp only; omega)
  rw [h1, h2]

/-- Every row of the arrays is of real numbers. -/
def Reals (c : Dev nD) : Prop := ∀ b s, (arrRow m c b s).Reals

variable {m}

/-- Then every row of a block is. -/
theorem blk_reals {c : Dev nD} (h : Reals m c) (t : Fin cfg0.N) (ht : t.val < 256) (r : Fin 256) :
    (blkRow (iblk m c 0 t) (iblk m c 1 t) (iblk m c 2 t) (iblk m c 3 t) (iblk m c 4 t) (iblk m c 5 t) (iblk m c 6 t)
        (iblk m c 7 t) (iblk m c 8 t) (iblk m c 9 t) (iblk m c 10 t) r).Reals := by
  rw [row_eq m c t ht r]
  exact h _ _

/-- What is stored of the residual at grid point `t` is the reference's. -/
theorem point_h {c : Dev nD} (h : Reals m c) (t : Fin cfg0.N) (y : S256x1024.Idx) :
    out0_13 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t) y
      = REFh m c (((cfg0.win 13).blk t).view.emb y) := by
  have ht : t.val < 256 := t.isLt
  obtain ⟨r, d, rfl⟩ : ∃ (r : Fin 256) (d : Fin 1024), y = ix2 r d := ⟨y 0, y 1, eq_ix2 y⟩
  rw [stored_h _ _ _ _ _ _ _ _ _ _ _ _ _ r d (blk_reals h t ht r), row_eq m c t ht r, ← arr_row m c t ht r]
  exact (Cert.PostRefIdeal.Value.result_at _ _ _ _ _ _ _ _ _ (m ((c : Thread nD τ).loc main_arg9))
    (m ((c : Thread nD τ).loc main_arg10)) (rowOf t ht r) d).symm.trans (congrArg (REFh m c) (emb_h t ht r d).symm)

/-- The scores of a block's rows are the reference's scores of the same rows. -/
theorem score_eq {c : Dev nD} (t : Fin cfg0.N) (ht : t.val < 256) (K : Vec Ideal S128x128 .f32) (x : FVec Ideal S1x128x128 .f32)
    (hK : ∀ a d, K (ix2 a d) = x (ix3 0 a d)) (o : ℕ) (ho : o + 128 ≤ 256) (p : ℕ) (hp : p + 128 ≤ 2048) (k : Fin 8)
    (e : p = k.val * 256 + o) (a : Fin 128) (r : Fin 256) :
    blkScore (iblk m c 0 t) (iblk m c 1 t) (iblk m c 2 t) (iblk m c 3 t) (iblk m c 4 t) (iblk m c 5 t)
        (iblk m c 6 t) (iblk m c 7 t) (iblk m c 8 t) (iblk m c 9 t) (iblk m c 10 t) K o ho k a r
      = Cert.PostRefIdeal.Value.keyScore (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          x p hp a (rowOf t ht r) := by
  subst e
  unfold blkScore Cert.PostRefIdeal.Value.keyScore
  rw [row_eq m c t ht r, ← arr_row m c t ht r]
  simp only [hK]

/-- What is stored of the first scores at grid point `t` is the reference's. -/
theorem point_s1 {c : Dev nD} (h : Reals m c) (hK : ∀ i : S1x128x128.Idx, Real' (m ((c : Thread nD τ).loc main_arg11) i))
    (t : Fin cfg0.N) (y : S8x128x256.Idx) :
    out0_14 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t) y
      = REF1 m c (((cfg0.win 14).blk t).view.emb y) := by
  have ht : t.val < 256 := t.isLt
  obtain ⟨k, a, r, rfl⟩ : ∃ (k : Fin 8) (a : Fin 128) (r : Fin 256), y = ix3 k a r := ⟨y 0, y 1, y 2, eq_ix3 y⟩
  refine (stored_s1 _ _ _ _ _ _ _ _ _ _ _ _ _ (fun r => blk_reals h t ht r)
    (fun a d => by rw [blk_k1]; exact hK _) _).trans ?_
  refine (score_eq t ht _ (m ((c : Thread nD τ).loc main_arg11)) (blk_k1 m c t) 0 (by decide) (k.val * 256) (by omega) k rfl
    a r).trans ?_
  exact (Cert.PostRefIdeal.Value.score1_at _ _ _ _ _ _ _ _ _ _ _ _ k a (rowOf t ht r)).symm.trans
    (congrArg (REF1 m c) (emb_s1 t ht k a r).symm)

/-- What is stored of the second scores at grid point `t` is the reference's. -/
theorem point_s2 {c : Dev nD} (h : Reals m c) (hK : ∀ i : S1x128x128.Idx, Real' (m ((c : Thread nD τ).loc main_arg12) i))
    (t : Fin cfg0.N) (y : S8x128x256.Idx) :
    out0_15 (F := Ideal) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t) (iblk m c 12 t) y
      = REF2 m c (((cfg0.win 15).blk t).view.emb y) := by
  have ht : t.val < 256 := t.isLt
  obtain ⟨k, a, r, rfl⟩ : ∃ (k : Fin 8) (a : Fin 128) (r : Fin 256), y = ix3 k a r := ⟨y 0, y 1, y 2, eq_ix3 y⟩
  refine (stored_s2 _ _ _ _ _ _ _ _ _ _ _ _ _ (fun r => blk_reals h t ht r)
    (fun a d => by rw [blk_k2]; exact hK _) _).trans ?_
  refine (score_eq t ht _ (m ((c : Thread nD τ).loc main_arg12)) (blk_k2 m c t) 128 (by decide) (k.val * 256 + 128) (by omega)
    k rfl a r).trans ?_
  exact (Cert.PostRefIdeal.Value.score2_at _ _ _ _ _ _ _ _ _ _ _ _ k a (rowOf t ht r)).symm.trans
    (congrArg (REF2 m c) (emb_s2 t ht k a r).symm)

/-- The array of residuals after the run is the reference's. -/
theorem final_h {c : Dev nD} (h : Reals m c) : (dats m 0 c).arrAt 13 (cfgs 0).N = REFh m c := by
  refine (dats m 0 c).arrAt_eq_of_covers 13 _ (by decide +kernel) fun t _ y => ?_
  blk_simp
  rw [after0_13]
  exact point_h h t y

/-- The array of the first scores after the run is the reference's. -/
theorem final_s1 {c : Dev nD} (h : Reals m c) (hK : ∀ i : S1x128x128.Idx, Real' (m ((c : Thread nD τ).loc main_arg11) i)) :
    (dats m 0 c).arrAt 14 (cfgs 0).N = REF1 m c := by
  refine (dats m 0 c).arrAt_eq_of_covers 14 _ (by decide +kernel) fun t _ y => ?_
  blk_simp
  rw [after0_14]
  exact point_s1 h hK t y

/-- The array of the second scores after the run is the reference's. -/
theorem final_s2 {c : Dev nD} (h : Reals m c) (hK : ∀ i : S1x128x128.Idx, Real' (m ((c : Thread nD τ).loc main_arg12) i)) :
    (dats m 0 c).arrAt 15 (cfgs 0).N = REF2 m c := by
  refine (dats m 0 c).arrAt_eq_of_covers 15 _ (by decide +kernel) fun t _ y => ?_
  blk_simp
  rw [after0_15]
  exact point_s2 h hK t y

end Cert.PostIdeal.Value

end
-- ==== Proof.Post.Claim.lean ====
/- The claim about what follows the mixers. -/
module

public import proofs.«01_k».proof.Defs
public import proofs.«01_k».proof.Proof.Finite
public import proofs.«01_k».proof.Proof.Post.Value
public import proofs.«01_k».proof.Proof.Gen.PostRefIdeal.Run
public import proofs.«01_k».proof.Proof.Gen.Pre_post_finite

@[expose] public section

set_option maxRecDepth 16384

noncomputable section

namespace Cert.PostIdeal.Value

open Idealize.ShloMosaic Idealize.SL.Sem
open Cert.Finite

attribute [local instance] Cert.PostIdeal.Gen.facts Cert.PostRefIdeal.Gen.facts Cert.Pre_post_finite.Gen.facts

/-- An array with no axes has one entry. -/
local instance : Subsingleton Cert.Pre_post_finite.S_.Idx := ⟨fun i j => funext fun a => a.elim0⟩

/-- Every argument has real entries. -/
structure ArgsReal (m : (ℓ : Loc nD τ sig) → Buf (Elt Ideal) ℓ) (c : Dev nD) : Prop where
  /-- The residual. -/
  x : ∀ i : S32x2048x1024.Idx, Real' (m ((c.tc : Thread nD τ).loc main_arg0) i)
  /-- The attention's output. -/
  a : ∀ i : S65536x1024.Idx, Real' (m ((c.tc : Thread nD τ).loc main_arg1) i)
  /-- The recurrence's output. -/
  w : ∀ i : S65536x1024.Idx, Real' (m ((c.tc : Thread nD τ).loc main_arg2) i)
  /-- The gates. -/
  g : ∀ i : S65536x2048.Idx, Real' (m ((c.tc : Thread nD τ).loc main_arg3) i)
  /-- The memory's keys and values. -/
  kv : ∀ i : S8192x1024.Idx, Real' (m ((c.tc : Thread nD τ).loc main_arg4) i)
  /-- The output projection. -/
  o : ∀ i : S1x1024x1024.Idx, Real' (m ((c.tc : Thread nD τ).loc main_arg5) i)
  /-- The gain of the norm before the cross-attention. -/
  gc : ∀ i : S1x1024.Idx, Real' (m ((c.tc : Thread nD τ).loc main_arg6) i)
  /-- The projection to queries. -/
  q : ∀ i : S1x1024x512.Idx, Real' (m ((c.tc : Thread nD τ).loc main_arg7) i)
  /-- The projection of what is attended. -/
  p : ∀ i : S1x512x1024.Idx, Real' (m ((c.tc : Thread nD τ).loc main_arg8) i)
  /-- The gain of the norm before the routing. -/
  gf : ∀ i : S1x1024.Idx, Real' (m ((c.tc : Thread nD τ).loc main_arg9) i)
  /-- The projection to the routing's queries. -/
  s : ∀ i : S1x1024x2048.Idx, Real' (m ((c.tc : Thread nD τ).loc main_arg10) i)
  /-- The first sub-keys. -/
  k1 : ∀ i : S1x128x128.Idx, Real' (m ((c.tc : Thread nD τ).loc main_arg11) i)
  /-- The second sub-keys. -/
  k2 : ∀ i : S1x128x128.Idx, Real' (m ((c.tc : Thread nD τ).loc main_arg12) i)

/-- The precondition makes the arguments real. -/
theorem real (m : (ℓ : Loc nD τ sig) → Buf (Elt Ideal) ℓ) (h : Cert.Pre_PostIdeal_post_finite m) (c : Dev nD) :
    ArgsReal m c := by
  obtain ⟨h, h12⟩ := both _ _ (congrFun (h c) (fun a => a.elim0))
  obtain ⟨h, h11⟩ := both _ _ h
  obtain ⟨h, h10⟩ := both _ _ h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h0, h1⟩ := both _ _ h
  have r1 := real_of_all _ _ (fun _ => rfl) _ _ _ _ h1
  have r2 := real_of_all _ _ (fun _ => rfl) _ _ _ _ h2
  have r3 := real_of_all _ _ (fun _ => rfl) _ _ _ _ h3
  have r4 := real_of_all _ _ (fun _ => rfl) _ _ _ _ h4
  exact ⟨real_of_all _ _ (fun _ => rfl) _ _ _ _ h0, r1, r2, r3, r4, real_of_all _ _ (fun _ => rfl) _ _ _ _ h5,
    real_of_all _ _ (fun _ => rfl) _ _ _ _ h6, real_of_all _ _ (fun _ => rfl) _ _ _ _ h7,
    real_of_all _ _ (fun _ => rfl) _ _ _ _ h8, real_of_all _ _ (fun _ => rfl) _ _ _ _ h9,
    real_of_all _ _ (fun _ => rfl) _ _ _ _ h10, real_of_all _ _ (fun _ => rfl) _ _ _ _ h11,
    real_of_all _ _ (fun _ => rfl) _ _ _ _ h12⟩

/-- Then every row is of real numbers. -/
theorem rows_real {m : (ℓ : Loc nD τ sig) → Buf (Elt Ideal) ℓ} {c : Dev nD} (h : ArgsReal m c) : Reals m c := fun b s =>
  { x := fun _ => h.x _
    a := fun _ => h.a _
    w := fun _ => h.w _
    ga := fun _ => h.g _
    gw := fun _ => h.g _
    o := fun _ _ => h.o _
    g := fun _ => h.gc _
    q := fun _ _ => h.q _
    k := fun _ _ => h.kv _
    v := fun _ _ => h.kv _
    p := fun _ _ => h.p _
    g' := fun _ => h.gf _
    s := fun _ _ => h.s _ }

set_option maxHeartbeats 2000000 in
/-- Over exact arithmetic the kernel ends with the residual and the routing scores the reference computes, where the
    arguments are real. -/
theorem algebraic : Cert.algebraic_PostIdeal_PostRefIdeal_pre_post_finite := by
  pair_intro
  · run_from Cert.PostIdeal.Gen.run_main m g
  · run_from Cert.PostRefIdeal.Value.run m' g'
    · refine (Cert.PostRefIdeal.Read.val_main_v82_eq m' c).trans ?_
      obtain ⟨e0, e1, e2, e3, e4, e5, e6, e7, e8, _⟩ := hagree c
      rw [e0, e1, e2, e3, e4, e5, e6, e7, e8]
      exact (final_h (rows_real (real m hpre c))).symm
    · refine (Cert.PostRefIdeal.Read.val_main_v77_eq m' c).trans ?_
      obtain ⟨e0, e1, e2, e3, e4, e5, e6, e7, e8, e9, e10, e11, _⟩ := hagree c
      rw [e0, e1, e2, e3, e4, e5, e6, e7, e8, e9, e10, e11]
      exact (final_s1 (rows_real (real m hpre c)) (real m hpre c).k1).symm
    · refine (Cert.PostRefIdeal.Read.val_main_v81_eq m' c).trans ?_
      obtain ⟨e0, e1, e2, e3, e4, e5, e6, e7, e8, e9, e10, _, e12⟩ := hagree c
      rw [e0, e1, e2, e3, e4, e5, e6, e7, e8, e9, e10, e12]
      exact (final_s2 (rows_real (real m hpre c)) (real m hpre c).k2).symm

end Cert.PostIdeal.Value

end
-- ==== Proof.Pack.Value.lean ====
/- The table of packed words: what the reference computes at an index, and that the result array is the
   reference's. -/
module

public import proofs.«01_k».proof.Proof.Pack.Run
public import proofs.«01_k».proof.Proof.Gen.PackRef.Read
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.Pack.Value
open Cert.Pack Cert.Pack.Gen

variable {F : FTy → Type} [BitOps F]

/-- The table as the reference computes it: of every row, the words of its numbers taken in pairs of runs
    of 128. -/
abbrev REF (x : FVec F S1x16384x1024 .f32) : IVec S65536x128 32 :=
  Cert.PackRef.Read.val_main_v12 (F := F) x

open Cert.PackRef.Read in
/-- What the reference computes at row `4 e + p`, lane `l`: row `e`'s numbers `l` of the `p`-th pair of runs, in
    one word. -/
theorem ref_at (x : FVec F S1x16384x1024 .f32) (n : Fin 65536) (l : Fin 128) :
    REF x (ix2 n l)
      = pair (x (ix3 (0 : Fin 1) (⟨n / 4, by omega⟩ : Fin 16384) (⟨n % 4 * 256 + l, by omega⟩ : Fin 1024)))
          (x (ix3 (0 : Fin 1) (⟨n / 4, by omega⟩ : Fin 16384) (⟨n % 4 * 256 + 128 + l, by omega⟩ : Fin 1024))) := by
  pointwise [REF, pair, bits, val_main_v12, val_main_v11, val_main_v10, val_main_v9, val_main_v8, val_main_v7, val_main_v6,
    val_main_v5, val_main_v4, val_main_v3, val_main_v2, val_main_v1, val_main_v0, val_main_c, hostShrui_eq_shrui]

variable (m : (ℓ : Loc nD τ sig) → Buf (Elt F) ℓ)

/-- Where each window's block lies at grid point `t`: block by block. -/
theorem idx : ∀ t : Fin cfg0.N, win0_0.index t = ![t.val, 0] ∧ win0_1.index t = ![t.val, 0] :=
  (by decide +kernel : ∀ t : Fin grid0.N, _)

/-- The rows as the kernel reads them. -/
theorem entry_x (c : Dev nD) (n : Fin 16384) (k : Fin 1024) :
    V m c main_v0 (ix2 n k) = m ((c : Thread nD τ).loc main_arg0) (ix3 (0 : Fin 1) n k) := by
  entry_read
  pointwise

/-- The block of rows of grid point `t` is rows `512 t` and on. -/
theorem blk_x (c : Dev nD) (t : Fin cfg0.N) (ht : t.val < 32) (r : Fin 512) (k : Fin 1024) :
    iblk m c 0 t (ix2 r k) = V m c main_v0 (ix2 (⟨t.val * 512 + r.val, by omega⟩ : Fin 16384) k) := by
  unfold iblk
  generalize V m c main_v0 = X
  blk_ext [idx t]

/-- Where the block of words of grid point `t` lies in the table. -/
theorem emb_out (t : Fin cfg0.N) (ht : t.val < 32) (r : Fin 2048) (l : Fin 128) :
    ((cfg0.win 1).blk t).view.emb (ix2 r l) = ix2 (⟨t.val * 2048 + r.val, by omega⟩ : Fin 65536) l := by
  blk_ext [idx t]

/-- The words of grid point `t`'s block are the reference's at the place of the table that the block goes to. -/
theorem point (c : Dev nD) (t : Fin cfg0.N) (r : Fin 2048) (l : Fin 128) :
    words (iblk m c 0 t) (ix2 r l)
      = REF (m ((c : Thread nD τ).loc main_arg0)) (((cfg0.win 1).blk t).view.emb (ix2 r l)) := by
  have ht : t.val < 32 := t.isLt
  rw [emb_out t ht, ref_at]
  unfold words
  rw [blk_x m c t ht, blk_x m c t ht, entry_x, entry_x]
  congr 2
  · refine congrArg₂ (ix3 (0 : Fin 1)) (Fin.ext ?_) (Fin.ext ?_)
    · show t.val * 512 + r.val / 4 = (t.val * 2048 + r.val) / 4; omega
    · show r.val % 4 * 256 + l.val = (t.val * 2048 + r.val) % 4 * 256 + l.val; omega
  · refine congrArg₂ (ix3 (0 : Fin 1)) (Fin.ext ?_) (Fin.ext ?_)
    · show t.val * 512 + r.val / 4 = (t.val * 2048 + r.val) / 4; omega
    · show r.val % 4 * 256 + 128 + l.val = (t.val * 2048 + r.val) % 4 * 256 + 128 + l.val; omega

/-- The result array after the run is the reference's. -/
theorem final (c : Dev nD) : (dats m 0 c).arrAt 1 (cfgs 0).N = REF (m ((c : Thread nD τ).loc main_arg0)) := by
  refine (dats m 0 c).arrAt_eq_of_covers 1 _ (by decide +kernel) fun t _ y => ?_
  blk_simp
  rw [after0_1]
  rw [eq_ix2 y]
  exact point m c t (y 0) (y 1)

end Cert.Pack.Value

end
-- ==== Proof.Pack.Claim.lean ====
/- The claim about the table of packed words. -/
module

public import proofs.«01_k».proof.Defs
public import proofs.«01_k».proof.Proof.Pack.Value
public import proofs.«01_k».proof.Proof.Gen.PackRef.Run

@[expose] public section

set_option maxRecDepth 16384

noncomputable section

namespace Cert.Pack.Value

open Idealize.ShloMosaic Idealize.SL.Sem

attribute [local instance] Cert.Pack.Gen.facts Cert.PackRef.Gen.facts

/-- The kernel ends with the reference's table, word for word. -/
theorem bitexact : Cert.bitexact_Pack_PackRef := by
  pair_intro
  · run_from Cert.Pack.Value.run_main m g
  · run_from Cert.PackRef.Value.run m' g'
    exact (final m c).symm

end Cert.Pack.Value

end
-- ==== Proof.lean ====
module

public import proofs.«01_k».proof.Defs
public import proofs.«01_k».proof.Proof.Frames
public import proofs.«01_k».proof.Proof.Swa.Claim
public import proofs.«01_k».proof.Proof.InProj.Claim
public import proofs.«01_k».proof.Proof.MemKv.Claim
public import proofs.«01_k».proof.Proof.Post.Claim
public import proofs.«01_k».proof.Proof.Pack.Claim
public import Idealize.ShloMosaic.Adequacy
public import Idealize.ShloMosaic.Init

@[expose] public section

noncomputable section

namespace Cert.Proof

open Idealize.ShloMosaic Idealize.SL.Sem

/-- The one constant that the attention kernel's reading names is the mask: −1e30 in words, −∞ as a number. -/
theorem preserves_swa : Cert.preserves_Swa_SwaIdeal :=
  IdealRules.named_const.statement Cert.SwaIdeal.κ "mask" .f32 0xF149F2CA#32 ⊥ rfl

/-- Every claim of the certificate. -/
theorem claim : Cert.Claim :=
  ⟨Cert.Swa.Gen.facts, Cert.SwaIdeal.Gen.facts, Cert.SwaRefIdeal.Gen.facts,
    Cert.InProj.Gen.facts, Cert.InProjIdeal.Gen.facts, Cert.InProjRefIdeal.Gen.facts,
    Cert.MemKv.Gen.facts, Cert.MemKvIdeal.Gen.facts, Cert.MemKvRefIdeal.Gen.facts,
    Cert.Post.Gen.facts, Cert.PostIdeal.Gen.facts, Cert.PostRefIdeal.Gen.facts,
    Cert.Pack.Gen.facts, Cert.PackRef.Gen.facts,
    Cert.Pre_swa_finite.Gen.facts, Cert.Pre_post_finite.Gen.facts,
    Frames.swa, Frames.swaIdeal, Frames.swaIdeal_finite, Frames.swaRef, Frames.swaRef_finite,
    Frames.inProj, Frames.inProjIdeal, Frames.inProjRef, Frames.memKv, Frames.memKvIdeal, Frames.memKvRef,
    Frames.post, Frames.postIdeal, Frames.postIdeal_finite, Frames.postRef, Frames.postRef_finite,
    Frames.pack, Frames.packRef,
    preserves_swa, Cert.SwaIdeal.Value.algebraic, trivial, Cert.InProjIdeal.Value.algebraic,
    trivial, Cert.MemKvIdeal.Value.algebraic, trivial, Cert.PostIdeal.Value.algebraic,
    Cert.Pack.Value.bitexact⟩

end Cert.Proof

end
